-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S4x8x2x1024 Cert.KernelIdeal.S4x8x1x1024
  ∧ IdealRules.bf16_pair.PackStatement Cert.KernelIdeal.S8x1024
  ∧ IdealRules.bf16_pair.Statement Cert.KernelIdeal.S1x8x2x1024 Cert.KernelIdeal.S1x8x1x1024
  ∧ IdealRules.bf16_pair.Statement Cert.KernelIdeal.S1x1x2x256 Cert.KernelIdeal.S1x1x1x256
  ∧ IdealRules.bf16_pair.Statement Cert.KernelIdeal.S2x256 Cert.KernelIdeal.S1x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x2048 : Shape := ⟨3, ![256, 1, 2048]⟩
abbrev S16384x1024 : Shape := ⟨2, ![16384, 1024]⟩
abbrev S16384x8 : Shape := ⟨2, ![16384, 8]⟩
abbrev S16384x8x12 : Shape := ⟨3, ![16384, 8, 12]⟩
abbrev S256x2048 : Shape := ⟨2, ![256, 2048]⟩
abbrev S8x16384 : Shape := ⟨2, ![8, 16384]⟩
abbrev S12x8x16384 : Shape := ⟨3, ![12, 8, 16384]⟩
abbrev S256x16384 : Shape := ⟨2, ![256, 16384]⟩
abbrev S1024x1024 : Shape := ⟨2, ![1024, 1024]⟩
abbrev S8x1024 : Shape := ⟨2, ![8, 1024]⟩
abbrev S12x8x1024 : Shape := ⟨3, ![12, 8, 1024]⟩
abbrev S256x1024 : Shape := ⟨2, ![256, 1024]⟩
abbrev S4x8x1024 : Shape := ⟨3, ![4, 8, 1024]⟩
abbrev S256x128 : Shape := ⟨2, ![256, 128]⟩
abbrev S256x128x1 : Shape := ⟨3, ![256, 128, 1]⟩
abbrev S1x8x1024 : Shape := ⟨3, ![1, 8, 1024]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x1x256 : Shape := ⟨3, ![1, 1, 256]⟩
abbrev S1x256 : Shape := ⟨2, ![1, 256]⟩
abbrev S2x256 : Shape := ⟨2, ![2, 256]⟩
abbrev S1x2x256 : Shape := ⟨3, ![1, 2, 256]⟩
abbrev S32x2x256 : Shape := ⟨3, ![32, 2, 256]⟩
abbrev S64x256 : Shape := ⟨2, ![64, 256]⟩

abbrev nBuf : Space → Nat
  | .hbm => 10
  | .vmem => 14
  | .smem => 0
  | _ => 0

abbrev bufTy : (tb : Table) → Fin (tcTables nBuf tb) → BufTy
  | .hbm, ⟨0, _⟩ => ⟨S256x1x2048, .bf16⟩
  | .hbm, ⟨1, _⟩ => ⟨S16384x1024, .i8⟩
  | .hbm, ⟨2, _⟩ => ⟨S16384x8, .i16⟩
  | .hbm, ⟨3, _⟩ => ⟨S16384x8, .i16⟩
  | .hbm, ⟨4, _⟩ => ⟨S16384x8x12, .i8⟩
  | .hbm, ⟨5, _⟩ => ⟨S256x2048, .bf16⟩
  | .hbm, ⟨6, _⟩ => ⟨S8x16384, .i16⟩
  | .hbm, ⟨7, _⟩ => ⟨S8x16384, .i16⟩
  | .hbm, ⟨8, _⟩ => ⟨S12x8x16384, .i8⟩
  | .hbm, ⟨9, _⟩ => ⟨S256x16384, .bf16⟩
  | .local _ .vmem, ⟨0, _⟩ => ⟨S256x2048, .bf16⟩
  | .local _ .vmem, ⟨1, _⟩ => ⟨S1024x1024, .i8⟩
  | .local _ .vmem, ⟨2, _⟩ => ⟨S1024x1024, .i8⟩
  | .local _ .vmem, ⟨3, _⟩ => ⟨S8x1024, .i16⟩
  | .local _ .vmem, ⟨4, _⟩ => ⟨S8x1024, .i16⟩
  | .local _ .vmem, ⟨5, _⟩ => ⟨S8x1024, .i16⟩
  | .local _ .vmem, ⟨6, _⟩ => ⟨S8x1024, .i16⟩
  | .local _ .vmem, ⟨7, _⟩ => ⟨S12x8x1024, .i8⟩
  | .local _ .vmem, ⟨8, _⟩ => ⟨S12x8x1024, .i8⟩
  | .local _ .vmem, ⟨9, _⟩ => ⟨S256x1024, .bf16⟩
  | .local _ .vmem, ⟨10, _⟩ => ⟨S256x1024, .bf16⟩
  | .local _ .vmem, ⟨11, _⟩ => ⟨S256x2048, .bf16⟩
  | .local _ .vmem, ⟨12, _⟩ => ⟨S4x8x1024, .i32⟩
  | .local _ .vmem, ⟨13, _⟩ => ⟨S4x8x1024, .i32⟩
  | _, _ => ⟨S256x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S12x8x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S4x8x2x1024 : Shape := ⟨4, ![4, 8, 2, 1024]⟩
abbrev S4x8x1x1024 : Shape := ⟨4, ![4, 8, 1, 1024]⟩
abbrev S1x8x2x1024 : Shape := ⟨4, ![1, 8, 2, 1024]⟩
abbrev S1x8x1x1024 : Shape := ⟨4, ![1, 8, 1, 1024]⟩
abbrev S1x1x2x256 : Shape := ⟨4, ![1, 1, 2, 256]⟩
abbrev S1x1x1x256 : Shape := ⟨4, ![1, 1, 1, 256]⟩
  | .local _ .vmem, ⟨12, _⟩ => ⟨S4x8x2x1024, .bf16⟩
  | .local _ .vmem, ⟨13, _⟩ => ⟨S4x8x2x1024, .bf16⟩
variable {F : FTy → Type} [FloatOps F]
-- ==== ReferenceIdeal.lean ====
abbrev S256x1x2048 : Shape := ⟨3, ![256, 1, 2048]⟩
abbrev S16384x1024 : Shape := ⟨2, ![16384, 1024]⟩
abbrev S16384x8 : Shape := ⟨2, ![16384, 8]⟩
abbrev S16384x8x12 : Shape := ⟨3, ![16384, 8, 12]⟩
abbrev S16384x8x4 : Shape := ⟨3, ![16384, 8, 4]⟩
abbrev S_ : Shape := ⟨0, ![]⟩
abbrev S16384x8x8 : Shape := ⟨3, ![16384, 8, 8]⟩
abbrev S16384x8x1 : Shape := ⟨3, ![16384, 8, 1]⟩
abbrev S16384x8x4x2 : Shape := ⟨4, ![16384, 8, 4, 2]⟩
abbrev S16384x8x4x32 : Shape := ⟨4, ![16384, 8, 4, 32]⟩
abbrev S16384x8x4x1 : Shape := ⟨4, ![16384, 8, 4, 1]⟩
abbrev S256x1x8x4x2x32 : Shape := ⟨6, ![256, 1, 8, 4, 2, 32]⟩
abbrev S256x1x8x4x1x32 : Shape := ⟨6, ![256, 1, 8, 4, 1, 32]⟩
abbrev S256x1x8x4x32 : Shape := ⟨5, ![256, 1, 8, 4, 32]⟩
abbrev S256x1x16384 : Shape := ⟨3, ![256, 1, 16384]⟩
abbrev S256x16384 : Shape := ⟨2, ![256, 16384]⟩

abbrev nBuf : Space → Nat
  | .hbm => 85
  | .vmem => 4
  | .smem => 0
  | _ => 0

abbrev bufTy : (tb : Table) → Fin (tcTables nBuf tb) → BufTy
  | .hbm, ⟨0, _⟩ => ⟨S256x1x2048, .bf16⟩
  | .hbm, ⟨1, _⟩ => ⟨S16384x1024, .i8⟩
  | .hbm, ⟨2, _⟩ => ⟨S16384x8, .i16⟩
  | .hbm, ⟨3, _⟩ => ⟨S16384x8, .i16⟩
  | .hbm, ⟨4, _⟩ => ⟨S16384x8x12, .i8⟩
  | .hbm, ⟨5, _⟩ => ⟨S16384x8x12, .i32⟩
  | .hbm, ⟨6, _⟩ => ⟨S16384x8x4, .i32⟩
  | .hbm, ⟨7, _⟩ => ⟨S16384x8x4, .i32⟩
  | .hbm, ⟨8, _⟩ => ⟨S16384x8x4, .i32⟩
  | .hbm, ⟨9, _⟩ => ⟨S_, .i32⟩
  | .hbm, ⟨10, _⟩ => ⟨S16384x8x4, .i32⟩
  | .hbm, ⟨11, _⟩ => ⟨S16384x8x4, .i32⟩
  | .hbm, ⟨12, _⟩ => ⟨S_, .i32⟩
  | .hbm, ⟨13, _⟩ => ⟨S16384x8x4, .i32⟩
  | .hbm, ⟨14, _⟩ => ⟨S16384x8x4, .i32⟩
  | .hbm, ⟨15, _⟩ => ⟨S_, .i32⟩
  | .hbm, ⟨16, _⟩ => ⟨S16384x8x4, .i32⟩
  | .hbm, ⟨17, _⟩ => ⟨S16384x8x4, .i32⟩
  | .hbm, ⟨18, _⟩ => ⟨S_, .i32⟩
  | .hbm, ⟨19, _⟩ => ⟨S16384x8x4, .i32⟩
  | .hbm, ⟨20, _⟩ => ⟨S16384x8x4, .i32⟩
  | .hbm, ⟨21, _⟩ => ⟨S16384x8x4, .i32⟩
  | .hbm, ⟨22, _⟩ => ⟨S16384x8x8, .i32⟩
  | .hbm, ⟨23, _⟩ => ⟨S_, .i32⟩
  | .hbm, ⟨24, _⟩ => ⟨S16384x8x4, .i32⟩
  | .hbm, ⟨25, _⟩ => ⟨S16384x8x4, .i32⟩
  | .hbm, ⟨26, _⟩ => ⟨S_, .i32⟩
  | .hbm, ⟨27, _⟩ => ⟨S16384x8x4, .i32⟩
  | .hbm, ⟨28, _⟩ => ⟨S16384x8x4, .i32⟩
  | .hbm, ⟨29, _⟩ => ⟨S_, .i32⟩
  | .hbm, ⟨30, _⟩ => ⟨S16384x8x4, .i32⟩
  | .hbm, ⟨31, _⟩ => ⟨S16384x8x4, .i32⟩
  | .hbm, ⟨32, _⟩ => ⟨S_, .i32⟩
  | .hbm, ⟨33, _⟩ => ⟨S16384x8x4, .i32⟩
  | .hbm, ⟨34, _⟩ => ⟨S16384x8x4, .i32⟩
  | .hbm, ⟨35, _⟩ => ⟨S16384x8x4, .i32⟩
  | .hbm, ⟨36, _⟩ => ⟨S16384x8x8, .i32⟩
  | .hbm, ⟨37, _⟩ => ⟨S16384x8, .f16⟩
  | .hbm, ⟨38, _⟩ => ⟨S16384x8, .f16⟩
  | .hbm, ⟨39, _⟩ => ⟨S16384x8, .f32⟩
  | .hbm, ⟨40, _⟩ => ⟨S16384x8, .f32⟩
  | .hbm, ⟨41, _⟩ => ⟨S16384x8x1, .f32⟩
  | .hbm, ⟨42, _⟩ => ⟨S16384x8x8, .f32⟩
  | .hbm, ⟨43, _⟩ => ⟨S16384x8x8, .f32⟩
  | .hbm, ⟨44, _⟩ => ⟨S16384x8x8, .f32⟩
  | .hbm, ⟨45, _⟩ => ⟨S16384x8x8, .bf16⟩
  | .hbm, ⟨46, _⟩ => ⟨S16384x8x1, .f32⟩
  | .hbm, ⟨47, _⟩ => ⟨S16384x8x8, .f32⟩
  | .hbm, ⟨48, _⟩ => ⟨S16384x8x8, .f32⟩
  | .hbm, ⟨49, _⟩ => ⟨S16384x8x8, .f32⟩
  | .hbm, ⟨50, _⟩ => ⟨S16384x8x8, .bf16⟩
  | .hbm, ⟨51, _⟩ => ⟨S16384x8x4x2, .bf16⟩
  | .hbm, ⟨52, _⟩ => ⟨S16384x8x4x2, .bf16⟩
  | .hbm, ⟨53, _⟩ => ⟨S16384x1024, .i32⟩
  | .hbm, ⟨54, _⟩ => ⟨S16384x8x4x32, .i32⟩
  | .hbm, ⟨55, _⟩ => ⟨S_, .i32⟩
  | .hbm, ⟨56, _⟩ => ⟨S16384x8x4x32, .i32⟩
  | .hbm, ⟨57, _⟩ => ⟨S16384x8x4x32, .i32⟩
  | .hbm, ⟨58, _⟩ => ⟨S16384x8x4x32, .bf16⟩
  | .hbm, ⟨59, _⟩ => ⟨S_, .i32⟩
  | .hbm, ⟨60, _⟩ => ⟨S16384x8x4x32, .i32⟩
  | .hbm, ⟨61, _⟩ => ⟨S16384x8x4x32, .i32⟩
  | .hbm, ⟨62, _⟩ => ⟨S16384x8x4x32, .bf16⟩
  | .hbm, ⟨63, _⟩ => ⟨S16384x8x4x1, .bf16⟩
  | .hbm, ⟨64, _⟩ => ⟨S16384x8x4x32, .bf16⟩
  | .hbm, ⟨65, _⟩ => ⟨S16384x8x4x32, .bf16⟩
  | .hbm, ⟨66, _⟩ => ⟨S16384x8x4x1, .bf16⟩
  | .hbm, ⟨67, _⟩ => ⟨S16384x8x4x32, .bf16⟩
  | .hbm, ⟨68, _⟩ => ⟨S16384x8x4x32, .bf16⟩
  | .hbm, ⟨69, _⟩ => ⟨S16384x8x4x1, .bf16⟩
  | .hbm, ⟨70, _⟩ => ⟨S16384x8x4x32, .bf16⟩
  | .hbm, ⟨71, _⟩ => ⟨S16384x8x4x32, .bf16⟩
  | .hbm, ⟨72, _⟩ => ⟨S16384x8x4x1, .bf16⟩
  | .hbm, ⟨73, _⟩ => ⟨S16384x8x4x32, .bf16⟩
  | .hbm, ⟨74, _⟩ => ⟨S16384x8x4x32, .bf16⟩
  | .hbm, ⟨75, _⟩ => ⟨S256x1x8x4x2x32, .bf16⟩
  | .hbm, ⟨76, _⟩ => ⟨S256x1x8x4x1x32, .bf16⟩
  | .hbm, ⟨77, _⟩ => ⟨S256x1x8x4x32, .bf16⟩
  | .hbm, ⟨78, _⟩ => ⟨S256x1x16384, .f32⟩
  | .hbm, ⟨79, _⟩ => ⟨S256x1x8x4x1x32, .bf16⟩
  | .hbm, ⟨80, _⟩ => ⟨S256x1x8x4x32, .bf16⟩
  | .hbm, ⟨81, _⟩ => ⟨S256x1x16384, .f32⟩
  | .hbm, ⟨82, _⟩ => ⟨S256x1x16384, .f32⟩
  | .hbm, ⟨83, _⟩ => ⟨S256x1x16384, .bf16⟩
  | .hbm, ⟨84, _⟩ => ⟨S256x16384, .bf16⟩
  | .local _ .vmem, ⟨0, _⟩ => ⟨S16384x8, .f16⟩
  | .local _ .vmem, ⟨1, _⟩ => ⟨S16384x8, .f16⟩
  | .local _ .vmem, ⟨2, _⟩ => ⟨S16384x8, .f32⟩
  | .local _ .vmem, ⟨3, _⟩ => ⟨S16384x8, .f32⟩
  | _, _ => ⟨S256x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16384x8 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x8 .f16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Body.lean ====
/- What one grid point's body computes, in the kernel's own operations but written once: a subtile of the output is one expression in the
   loads it reads, and the packed scale buffers are four stores of one shape. The body unrolled by the program is this by unfolding. -/
module

public import proofs.«01_k».proof.Proof.Gen.KernelIdeal.Value
public import Idealize.ShloMosaic.Lib.Pipeline.ValueKit
public import Idealize.ShloMosaic.Lib.Pipeline.ReadBack

@[expose] public section
noncomputable section
namespace Cert.KernelIdeal.Val
open Idealize.ShloMosaic Idealize.ShloMosaic.Tactic Idealize.SL.Sem Cert.KernelIdeal Cert.KernelIdeal.Gen
variable {F : FTy → Type} [FloatOps F]

/-! ## The rectangles the body reads and writes -/

/-- Superblock `n`'s 256 columns of the interleaved activations. -/
def rX (n : Fin 8) : Rect S256x2048 := Rect.unit ![0, 256 * n.val] S256x256.size (by
  intro a; have := n.isLt; fin_cases a <;> simp <;> omega)
/-- The codes of subtile `c` in superblock `n`. -/
def rQ (c : Fin 4) (n : Fin 8) : Rect S1024x1024 := Rect.unit ![256 * c.val, 128 * n.val] S256x128.size (by
  intro a; have := n.isLt; have := c.isLt; fin_cases a <;> simp <;> omega)
/-- The scale pair `p` of superblock `n` in subtile `c`. -/
def rS (c : Fin 4) (n : Fin 8) (p : Fin 4) : Rect S4x8x2x1024 := Rect.unit ![p.val, n.val, 0, 256 * c.val] S1x1x2x256.size (by
  intro a; have := n.isLt; have := c.isLt; have := p.isLt; fin_cases a <;> simp <;> omega)
/-- The scale pair `p` of every superblock, as it is stored. -/
def rP (p : Fin 4) : Rect S4x8x2x1024 := Rect.unit ![p.val, 0, 0, 0] S1x8x2x1024.size (by
  intro a; have := p.isLt; fin_cases a <;> simp <;> omega)
/-- Row `k` of the packed scale bytes. -/
def rB (k : Fin 12) : Rect S12x8x1024 := Rect.unit ![k.val, 0, 0] S1x8x1024.size (by
  intro a; have := k.isLt; fin_cases a <;> simp <;> omega)
/-- The whole of a block of halves. -/
def rD : Rect S8x1024 := Rect.unit ![0, 0] S8x1024.size inb_S8x1024_S8x1024_0_0
/-- Subtile `c`'s columns of the output block. -/
def rY (c : Fin 4) : Rect S256x1024 := Rect.unit ![0, 256 * c.val] S256x256.size (by
  intro a; have := c.isLt; fin_cases a <;> simp <;> omega)

/-! ## The scales -/

/-- Bits 0 to 5 of a byte: the first four scales. -/
def lowSix (b : IVec S8x1024 32) : IVec S8x1024 32 := andi b (broadcast S8x1024 63#32)
/-- Four bits of one byte below the top two bits of another: the last four scales. -/
def joined (sh : BitVec 32) (u b : IVec S8x1024 32) : IVec S8x1024 32 :=
  ori (andi (shrsi u (broadcast S8x1024 sh)) (broadcast S8x1024 15#32)) (andi (shrsi b (broadcast S8x1024 2#32)) (broadcast S8x1024 48#32))
/-- The products of a superblock's factor with two scales, stored in alternate rows. -/
def scalePair (d : FVec F S8x1024 .f32) (u v : IVec S8x1024 32) : Vec F S1x8x2x1024 .bf16 :=
  interleaveRows S1x8x2x1024
    (shapeCast S1x8x1x1024 (shapeCast S1x8x1024 (truncf .bf16 (mulf d (sitofp .f32 u)) bitsLt_bf16_f32) shapeCasts_S8x1024_S1x8x1024) shapeCasts_S1x8x1024_S1x8x1x1024)
    (shapeCast S1x8x1x1024 (shapeCast S1x8x1024 (truncf .bf16 (mulf d (sitofp .f32 v)) bitsLt_bf16_f32) shapeCasts_S8x1024_S1x8x1024) shapeCasts_S1x8x1024_S1x8x1x1024)
    bitcasts_S1x8x2x1024_w16_S1x8x1x1024_w32
/-- The four stores of scale pairs from the bytes `b k` of the first four and the last four scales. -/
def scalePieces (d : FVec F S8x1024 .f32) (sh : BitVec 32) (b u : Fin 4 → IVec S8x1024 32) : List (View.Piece (Elt F) S4x8x2x1024 .bf16) :=
  [⟨rP 3, scalePair d (joined sh (u 2) (b 2)) (joined sh (u 3) (b 3))⟩,
   ⟨rP 2, scalePair d (joined sh (u 0) (b 0)) (joined sh (u 1) (b 1))⟩,
   ⟨rP 1, scalePair d (lowSix (b 2)) (lowSix (b 3))⟩,
   ⟨rP 0, scalePair d (lowSix (b 0)) (lowSix (b 1))⟩]

/-! ## A subtile -/

/-- A stored scale pair over 64 alternating rows. -/
def pairRows (raw : Vec F S1x1x2x256 .bf16) : FVec F S64x256 .bf16 :=
  shapeCast S64x256 (broadcastTo S32x2x256 (shapeCast S1x2x256
    (interleaveRows S2x256
      (shapeCast S1x256 (shapeCast S1x1x256 (rowsOfParity 0 S1x1x1x256 raw bitcasts_S1x1x2x256_w16_S1x1x1x256_w32) shapeCasts_S1x1x1x256_S1x1x256) shapeCasts_S1x1x256_S1x256)
      (shapeCast S1x256 (shapeCast S1x1x256 (rowsOfParity 1 S1x1x1x256 raw bitcasts_S1x1x2x256_w16_S1x1x1x256_w32) shapeCasts_S1x1x1x256_S1x1x256) shapeCasts_S1x1x256_S1x256)
      bitcasts_S2x256_w16_S1x256_w32)
    shapeCasts_S2x256_S1x2x256) broadcasts_S1x2x256_S32x2x256) shapeCasts_S32x2x256_S64x256
/-- 64 rows of dequantized weights. -/
def wRows (off : Fin 2 → ℕ) (h : S256x256.Slices off S64x256) (q : FVec F S256x256 .bf16) (s o : Vec F S1x1x2x256 .bf16) : FVec F S64x256 .bf16 :=
  subf (mulf (extractStridedSlice S64x256 off q h) (pairRows s)) (pairRows o)
/-- The 256 rows of dequantized weights of one superblock. -/
def wTile (codes : Vec F S256x128 .i8) (s o : Fin 4 → Vec F S1x1x2x256 .bf16) : FVec F S256x256 .bf16 :=
  concatenate S256x256 0 [⟨S64x256, wRows ![0, 0] slices_S256x256_o0_0_S64x256 (k0_pay78 codes) (s 0) (o 0)⟩,
    ⟨S64x256, wRows ![64, 0] slices_S256x256_o64_0_S64x256 (k0_pay78 codes) (s 1) (o 1)⟩,
    ⟨S64x256, wRows ![128, 0] slices_S256x256_o128_0_S64x256 (k0_pay78 codes) (s 2) (o 2)⟩,
    ⟨S64x256, wRows ![192, 0] slices_S256x256_o192_0_S64x256 (k0_pay78 codes) (s 3) (o 3)⟩] concatenates_S64x256_S64x256_S64x256_S64x256_S256x256_d0
/-- One superblock's product. -/
def term (x : Vec F S256x256 .bf16) (codes : Vec F S256x128 .i8) (s o : Fin 4 → Vec F S1x1x2x256 .bf16) : FVec F S256x256 .f32 :=
  matmul (φ₁ := .bf16) dot_S256x256_S256x256_S256x256_1_0_0_1_n_n none x (wTile codes s o) (constant S256x256 .f32 0x00000000#32)
/-- The eight products added from the left, narrowed. -/
def subtile (x : Fin 8 → Vec F S256x256 .bf16) (q : Fin 8 → Vec F S256x128 .i8) (s o : Fin 8 → Fin 4 → Vec F S1x1x2x256 .bf16) : FVec F S256x256 .bf16 :=
  truncf .bf16 (addf (addf (addf (addf (addf (addf (addf (term (x 0) (q 0) (s 0) (o 0)) (term (x 1) (q 1) (s 1) (o 1))) (term (x 2) (q 2) (s 2) (o 2)))
    (term (x 3) (q 3) (s 3) (o 3))) (term (x 4) (q 4) (s 4) (o 4))) (term (x 5) (q 5) (s 5) (o 5))) (term (x 6) (q 6) (s 6) (o 6))) (term (x 7) (q 7) (s 7) (o 7))) bitsLt_bf16_f32

/-! ## The activations' lanes -/

/-- The whole of a block of activations. -/
def rA : Rect S256x2048 := Rect.unit ![0, 0] S256x2048.size inb_S256x2048_S256x2048_0_0
theorem slices_col (k : Fin 16) : S256x2048.Slices ![0, 128 * k.val] S256x128 := by
  revert k; decide
/-- The lane each lane of a 128-lane column is read from. -/
def source : IVec S256x128 32 :=
  shapeCast S256x128 (shapeCast S256x128x1 (select (cmpi .slt k0_pay3 (broadcast S256x128 0#32)) (addi k0_pay3 (broadcast S256x128 128#32)) k0_pay3)
    shapeCasts_S256x128_S256x128x1) shapeCasts_S256x128x1_S256x128
/-- Column `k` of the activations with its lanes rearranged. -/
def gathered (x : Vec F S256x2048 .bf16) (k : Fin 16) : FVec F S256x128 .f32 :=
  dynamicGather 1 (extractStridedSlice S256x128 ![0, 128 * k.val] (k0_pay2 x) (slices_col k)) source
/-- The activations as the body keeps them. -/
def interleaved (x : Vec F S256x2048 .bf16) : FVec F S256x2048 .bf16 :=
  shapeCast S256x2048 (truncf .bf16 (concatenate S256x2048 1 [⟨S256x128, gathered x 0⟩, ⟨S256x128, gathered x 1⟩, ⟨S256x128, gathered x 2⟩, ⟨S256x128, gathered x 3⟩, ⟨S256x128, gathered x 4⟩, ⟨S256x128, gathered x 5⟩, ⟨S256x128, gathered x 6⟩, ⟨S256x128, gathered x 7⟩, ⟨S256x128, gathered x 8⟩, ⟨S256x128, gathered x 9⟩, ⟨S256x128, gathered x 10⟩, ⟨S256x128, gathered x 11⟩, ⟨S256x128, gathered x 12⟩, ⟨S256x128, gathered x 13⟩, ⟨S256x128, gathered x 14⟩, ⟨S256x128, gathered x 15⟩] concatenates_S256x128_S256x128_S256x128_S256x128_S256x128_S256x128_S256x128_S256x128_S256x128_S256x128_S256x128_S256x128_S256x128_S256x128_S256x128_S256x128_S256x2048_d1) bitsLt_bf16_f32) shapeCasts_S256x2048_S256x2048

end Cert.KernelIdeal.Val
end
-- ==== Proof.BodyA.lean ====
/- The first point, which fills the carried activations: what its body leaves there and in the output block. -/
module

public import proofs.«01_k».proof.Proof.Body

@[expose] public section
noncomputable section
namespace Cert.KernelIdeal.Val
open Idealize.ShloMosaic Idealize.ShloMosaic.Tactic Idealize.SL.Sem Cert.KernelIdeal Cert.KernelIdeal.Gen
variable {F : FTy → Type} [FloatOps F]
variable (c : Dev nD) (i : grid0.Coords) (arg1 : Memref sig .tc .vmem S256x2048 .bf16) (harg1 : arg1.IsWhole) (arg2 : Memref sig .tc .vmem S1024x1024 .i8) (harg2 : arg2.IsWhole) (arg3 : Memref sig .tc .vmem S8x1024 .i16) (harg3 : arg3.IsWhole) (arg4 : Memref sig .tc .vmem S8x1024 .i16) (harg4 : arg4.IsWhole) (arg5 : Memref sig .tc .vmem S12x8x1024 .i8) (harg5 : arg5.IsWhole) (arg6 : Memref sig .tc .vmem S256x1024 .bf16) (harg6 : arg6.IsWhole) (arg7 : Memref sig .tc .vmem S256x2048 .bf16) (harg7 : arg7.IsWhole) (arg8 : Memref sig .tc .vmem S4x8x2x1024 .bf16) (harg8 : arg8.IsWhole) (arg9 : Memref sig .tc .vmem S4x8x2x1024 .bf16) (harg9 : arg9.IsWhole)
  (x0 : Vec F S256x2048 .bf16) (x1 : Vec F S1024x1024 .i8) (x2 : Vec F S8x1024 .i16) (x3 : Vec F S8x1024 .i16) (x4 : Vec F S12x8x1024 .i8)

/-- The stored scale pairs. -/
theorem scales_A : kernelRun0_A.sl.HS1_4 c arg3 harg3 arg5 harg5 x2 x4
    = scalePieces (k0_pay27 (View.readAt (Elt F) arg3.view rD.toLoadRect (harg3.unread x2))) 0#32
        (fun k => k0_pay32 (View.readAt (Elt F) arg5.view (rB (k.castAdd 8)).toLoadRect (harg5.unread x4)))
        (fun k => k0_pay32 (View.readAt (Elt F) arg5.view (rB (k.natAdd 8)).toLoadRect (harg5.unread x4))) := by
  sl_kernel_rfl

/-- The stored minimum pairs. -/
theorem mins_A : kernelRun0_A.sl.HS2_4 c arg4 harg4 arg5 harg5 x3 x4
    = scalePieces (k0_pay27 (View.readAt (Elt F) arg4.view rD.toLoadRect (harg4.unread x3))) 4#32
        (fun k => k0_pay32 (View.readAt (Elt F) arg5.view (rB ((k.natAdd 4).castAdd 4)).toLoadRect (harg5.unread x4)))
        (fun k => k0_pay32 (View.readAt (Elt F) arg5.view (rB (k.natAdd 8)).toLoadRect (harg5.unread x4))) := by
  sl_kernel_rfl

/-- The store of the rearranged activations. -/
theorem acts_A : kernelRun0_A.sl.HS0_1 c arg1 harg1 x0
    = [⟨rA, interleaved (View.readAt (Elt F) arg1.view rA.toLoadRect (harg1.unread x0))⟩] := by
  sl_kernel_rfl

/-- The stores to the carried activations. -/
theorem carried_A (hc0 : cond0_0 i) :
    (kernelRun0_A c i arg1 harg1 arg2 harg2 arg3 harg3 arg4 harg4 arg5 harg5 arg6 harg6 arg7 harg7 arg8 harg8 arg9 harg9 hc0 x0 x1 x2 x3 x4).2.1
    = kernelRun0_A.sl.HS0_1 c arg1 harg1 x0 := by
  unfold kernelRun0_A
  sl_kernel_rfl

/-- The body's four stores to the output block. -/
theorem pieces_A (hc0 : cond0_0 i) :
    (kernelRun0_A c i arg1 harg1 arg2 harg2 arg3 harg3 arg4 harg4 arg5 harg5 arg6 harg6 arg7 harg7 arg8 harg8 arg9 harg9 hc0 x0 x1 x2 x3 x4).1
    = [3, 2, 1, 0].map fun k : Fin 4 => (⟨rY k, subtile (fun n => arg7.view.readCov (kernelRun0_A.sl.HS0_1 c arg1 harg1 x0) (rX n).toLoadRect)
        (fun n => View.readAt (Elt F) arg2.view (rQ k n).toLoadRect (harg2.unread x1))
        (fun n p => arg8.view.readCov (kernelRun0_A.sl.HS1_4 c arg3 harg3 arg5 harg5 x2 x4) (rS k n p).toLoadRect)
        (fun n p => arg9.view.readCov (kernelRun0_A.sl.HS2_4 c arg4 harg4 arg5 harg5 x3 x4) (rS k n p).toLoadRect)⟩ : View.Piece (Elt F) S256x1024 .bf16) := by
  unfold kernelRun0_A
  sl_kernel_rfl
end Cert.KernelIdeal.Val
end
-- ==== Proof.BodyB.lean ====
/- A point that keeps the activations the point before left: what its body leaves in the output block. -/
module

public import proofs.«01_k».proof.Proof.Body

@[expose] public section
noncomputable section
namespace Cert.KernelIdeal.Val
open Idealize.ShloMosaic Idealize.ShloMosaic.Tactic Idealize.SL.Sem Cert.KernelIdeal Cert.KernelIdeal.Gen
variable {F : FTy → Type} [FloatOps F]
variable (c : Dev nD) (i : grid0.Coords) (arg1 : Memref sig .tc .vmem S256x2048 .bf16) (harg1 : arg1.IsWhole) (arg2 : Memref sig .tc .vmem S1024x1024 .i8) (harg2 : arg2.IsWhole) (arg3 : Memref sig .tc .vmem S8x1024 .i16) (harg3 : arg3.IsWhole) (arg4 : Memref sig .tc .vmem S8x1024 .i16) (harg4 : arg4.IsWhole) (arg5 : Memref sig .tc .vmem S12x8x1024 .i8) (harg5 : arg5.IsWhole) (arg6 : Memref sig .tc .vmem S256x1024 .bf16) (harg6 : arg6.IsWhole) (arg7 : Memref sig .tc .vmem S256x2048 .bf16) (harg7 : arg7.IsWhole) (arg8 : Memref sig .tc .vmem S4x8x2x1024 .bf16) (harg8 : arg8.IsWhole) (arg9 : Memref sig .tc .vmem S4x8x2x1024 .bf16) (harg9 : arg9.IsWhole)
  (x0 : Vec F S256x2048 .bf16) (x1 : Vec F S1024x1024 .i8) (x2 : Vec F S8x1024 .i16) (x3 : Vec F S8x1024 .i16) (x4 : Vec F S12x8x1024 .i8)

/-- The stored scale pairs. -/
theorem scales_B : kernelRun0_B.sl.HS1_4 c arg3 harg3 arg5 harg5 x2 x4
    = scalePieces (k0_pay27 (View.readAt (Elt F) arg3.view rD.toLoadRect (harg3.unread x2))) 0#32
        (fun k => k0_pay32 (View.readAt (Elt F) arg5.view (rB (k.castAdd 8)).toLoadRect (harg5.unread x4)))
        (fun k => k0_pay32 (View.readAt (Elt F) arg5.view (rB (k.natAdd 8)).toLoadRect (harg5.unread x4))) := by
  sl_kernel_rfl

/-- The stored minimum pairs. -/
theorem mins_B : kernelRun0_B.sl.HS2_4 c arg4 harg4 arg5 harg5 x3 x4
    = scalePieces (k0_pay27 (View.readAt (Elt F) arg4.view rD.toLoadRect (harg4.unread x3))) 4#32
        (fun k => k0_pay32 (View.readAt (Elt F) arg5.view (rB ((k.natAdd 4).castAdd 4)).toLoadRect (harg5.unread x4)))
        (fun k => k0_pay32 (View.readAt (Elt F) arg5.view (rB (k.natAdd 8)).toLoadRect (harg5.unread x4))) := by
  sl_kernel_rfl

/-- The body's four stores to the output block. -/
theorem pieces_B (hc0 : ¬cond0_0 i) (xs0 : Vec F S256x2048 .bf16) :
    (kernelRun0_B c i arg1 harg1 arg2 harg2 arg3 harg3 arg4 harg4 arg5 harg5 arg6 harg6 arg7 harg7 arg8 harg8 arg9 harg9 hc0 x0 x1 x2 x3 x4 xs0).1
    = [3, 2, 1, 0].map fun k : Fin 4 => (⟨rY k, subtile (fun n => View.readAt (Elt F) arg7.view (rX n).toLoadRect (harg7.unread xs0))
        (fun n => View.readAt (Elt F) arg2.view (rQ k n).toLoadRect (harg2.unread x1))
        (fun n p => arg8.view.readCov (kernelRun0_B.sl.HS1_4 c arg3 harg3 arg5 harg5 x2 x4) (rS k n p).toLoadRect)
        (fun n p => arg9.view.readCov (kernelRun0_B.sl.HS2_4 c arg4 harg4 arg5 harg5 x3 x4) (rS k n p).toLoadRect)⟩ : View.Piece (Elt F) S256x1024 .bf16) := by
  unfold kernelRun0_B
  sl_kernel_rfl
end Cert.KernelIdeal.Val
end
-- ==== Proof.Half.lean ====
/- The kernel's decoding of a half-precision pattern by integer shifts and a subtraction gives the number the pattern denotes, at every
   pattern; and the kernel's and the reference's ways of joining the bits of two scale bytes agree. -/
module

public import proofs.«01_k».proof.Proof.Body
public import Idealize.ShloMosaic.Lib.Pointwise.Tactic
public import Mathlib.Data.Nat.Bitwise

@[expose] public section
noncomputable section
namespace Cert.KernelIdeal.Val
open Idealize.ShloMosaic

/-! ## The words -/

/-- The magnitude of a pattern, widened. -/
def hMag (h : BitVec 16) : BitVec 32 := h.signExtend 32 &&& 32767#32
/-- Its sign bit, at the top of a word. -/
def hSign (h : BitVec 16) : BitVec 32 := h.signExtend 32 &&& 2147483648#32
/-- The magnitude's bits where a wider pattern keeps them. -/
def hBits (h : BitVec 16) : BitVec 32 := hMag h <<< (13#32)
/-- The word of a zero or subnormal pattern over the smallest normal number. -/
def hSub (h : BitVec 16) : BitVec 32 := hBits h + 947912704#32
/-- The word of a normal, infinite or junk pattern. -/
def hWord (h : BitVec 16) : BitVec 32 := (hBits h + (if 31744 ≤ (hMag h).toNat then 1879048192#32 else 939524096#32)) ||| hSign h

theorem hMag_toNat (h : BitVec 16) : (hMag h).toNat = h.toNat % 32768 := by
  have := h.isLt
  rw [hMag, BitVec.toNat_and, BitVec.toNat_signExtend, show (32767#32).toNat = 2 ^ 15 - 1 from rfl, Nat.and_two_pow_sub_one_eq_mod]
  simp only [BitVec.toNat_setWidth]
  split <;> omega

theorem hSign_toNat (h : BitVec 16) : (hSign h).toNat = h.toNat / 32768 * 2147483648 := by
  have := h.isLt
  rw [hSign, BitVec.toNat_and, BitVec.toNat_signExtend, show (2147483648#32).toNat = 2 ^ 31 from rfl, Nat.and_two_pow, Nat.testBit_eq_decide_div_mod_eq]
  simp only [BitVec.toNat_setWidth, BitVec.msb_eq_decide]
  by_cases hs : 32768 ≤ h.toNat
  · have h1 : h.toNat / 32768 = 1 := by omega
    have h2 : (h.toNat % 2 ^ 32 + (2 ^ 32 - 2 ^ 16)) / 2 ^ 31 % 2 = 1 := by omega
    rw [if_pos (by simpa using hs), h1, h2]; rfl
  · have h1 : h.toNat / 32768 = 0 := by omega
    have h2 : (h.toNat % 2 ^ 32) / 2 ^ 31 % 2 = 0 := by omega
    rw [if_neg (by simpa using hs), Nat.add_zero, h1, h2]; rfl

theorem hBits_toNat (h : BitVec 16) : (hBits h).toNat = h.toNat % 32768 * 8192 := by
  rw [hBits, BitVec.shiftLeft_eq', BitVec.toNat_shiftLeft, hMag_toNat, show (13#32).toNat = 13 from rfl, Nat.shiftLeft_eq]
  omega

theorem hSub_toNat (h : BitVec 16) : (hSub h).toNat = h.toNat % 32768 * 8192 + 947912704 := by
  rw [hSub, BitVec.toNat_add, hBits_toNat, show (947912704#32).toNat = 947912704 from rfl]
  omega

theorem hWord_toNat (h : BitVec 16) :
    (hWord h).toNat = h.toNat / 32768 * 2147483648 + (h.toNat % 32768 * 8192 + if 31744 ≤ h.toNat % 32768 then 1879048192 else 939524096) := by
  have hl := h.isLt
  have e : ∀ K : ℕ, K = 1879048192 ∨ K = 939524096 → (BitVec.ofNat 32 K).toNat = K := by rintro K (rfl | rfl) <;> rfl
  rw [hWord, BitVec.toNat_or, BitVec.toNat_add, hBits_toNat, hSign_toNat, hMag_toNat]
  have k : ∀ K : ℕ, K ≤ 1879048192 → (h.toNat % 32768 * 8192 + K) % 2 ^ 32 ||| h.toNat / 32768 * 2147483648 = h.toNat / 32768 * 2147483648 + (h.toNat % 32768 * 8192 + K) := by
    intro K hK
    rw [Nat.mod_eq_of_lt (by omega), Nat.or_comm, show h.toNat / 32768 * 2147483648 = 2 ^ 31 * (h.toNat / 32768) by omega,
      ← Nat.two_pow_add_eq_or_of_lt (i := 31) (by omega)]
  split
  · rw [show (1879048192#32).toNat = 1879048192 from rfl]; exact k _ (by omega)
  · rw [show (939524096#32).toNat = 939524096 from rfl]; exact k _ (by omega)

/-! ## The numbers -/

/-- What a pattern's three fields denote. -/
theorem ieee_fields (e m : ℕ) {w : ℕ} (b : BitVec w) (s E T : ℕ) (hs : b.toNat / 2 ^ (e + m) % 2 = s) (hE : b.toNat / 2 ^ m % 2 ^ e = E)
    (hT : b.toNat % 2 ^ m = T) : Ideal.ieee e m b =
      (if E = 2 ^ e - 1 then (if T = 0 then (if s = 1 then ⊥ else ⊤) else ⊥)
      else if E = 0 then ((((if s = 1 then -1 else 1) * T * (2 : ℝ) ^ (1 - (2 ^ (e - 1) - 1 : ℤ) - m : ℤ) : ℝ)) : EReal)
      else ((((if s = 1 then -1 else 1) * (2 ^ m + T : ℕ) * (2 : ℝ) ^ ((E : ℤ) - (2 ^ (e - 1) - 1 : ℤ) - m) : ℝ)) : EReal)) := by
  have h1 : (b.extractLsb' (e + m) 1 == 1#1) = decide (s = 1) := by
    rw [Bool.eq_iff_iff, beq_iff_eq, decide_eq_true_iff, ← BitVec.toNat_inj, BitVec.extractLsb'_toNat, Nat.shiftRight_eq_div_pow, pow_one, hs]
    rfl
  have h2 : (b.extractLsb' m e).toNat = E := by rw [BitVec.extractLsb'_toNat, Nat.shiftRight_eq_div_pow, hE]
  have h3 : (b.extractLsb' 0 m).toNat = T := by rw [BitVec.extractLsb'_toNat, Nat.shiftRight_eq_div_pow, pow_zero, Nat.div_one, hT]
  unfold Ideal.ieee
  simp only [h1, h2, h3, decide_eq_true_eq]

/-- The decoding at one pattern. -/
def half (h : BitVec 16) : EReal := Ideal.ofBits .f16 h

theorem half_sub (h : BitVec 16) (hm : h.toNat % 32768 < 1024) :
    (if h.toNat / 32768 = 1 then 0 - (Ideal.ofBits .f32 (hSub h) - Ideal.ofBits .f32 0x38800000#32) else Ideal.ofBits .f32 (hSub h) - Ideal.ofBits .f32 0x38800000#32) = half h := by
  have hl := h.isLt
  have e1 := ieee_fields 5 10 h (h.toNat / 32768) 0 (h.toNat % 1024) (by omega) (by omega) (by omega)
  have e2 := ieee_fields 8 23 (hSub h) 0 113 (h.toNat % 1024 * 8192) (by rw [hSub_toNat]; omega) (by rw [hSub_toNat]; omega) (by rw [hSub_toNat]; omega)
  have e3 := ieee_fields 8 23 (0x38800000#32) 0 113 0 (by decide) (by decide) (by decide)
  have e4 : Ideal.ofBits .f32 (hSub h) - Ideal.ofBits .f32 0x38800000#32 = (((h.toNat % 1024 : ℕ) * (2 : ℝ) ^ (-24 : ℤ) : ℝ) : EReal) := by
    show Ideal.ieee 8 23 (hSub h) - Ideal.ieee 8 23 (0x38800000#32) = _
    rw [e2, e3]
    norm_num [-EReal.coe_mul]
    rw [← EReal.coe_sub]
    congr 1
    ring
  rw [e4]
  show _ = Ideal.ieee 5 10 h
  rw [e1]
  by_cases hs : h.toNat / 32768 = 1
  · simp only [hs, if_true]
    norm_num [-EReal.coe_mul]
  · simp only [hs, if_false]
    norm_num [-EReal.coe_mul]

theorem half_normal (h : BitVec 16) (hm : ¬ h.toNat % 32768 < 1024) : Ideal.ofBits .f32 (hWord h) = half h := by
  have hl := h.isLt
  have e1 := ieee_fields 5 10 h (h.toNat / 32768) (h.toNat / 1024 % 32) (h.toNat % 1024) (by omega) (by omega) (by omega)
  show Ideal.ieee 8 23 (hWord h) = Ideal.ieee 5 10 h
  by_cases hb : 31744 ≤ h.toNat % 32768
  · have e2 := ieee_fields 8 23 (hWord h) (h.toNat / 32768) 255 (h.toNat % 1024 * 8192) (by rw [hWord_toNat, if_pos hb]; omega)
      (by rw [hWord_toNat, if_pos hb]; omega) (by rw [hWord_toNat, if_pos hb]; omega)
    rw [if_pos (show h.toNat / 1024 % 32 = 2 ^ 5 - 1 by omega)] at e1
    rw [if_pos (show 255 = 2 ^ 8 - 1 by norm_num)] at e2
    rw [e1, e2]
    have : (h.toNat % 1024 * 8192 = 0) = (h.toNat % 1024 = 0) := by simp
    simp only [this]
  · have e2 := ieee_fields 8 23 (hWord h) (h.toNat / 32768) (h.toNat / 1024 % 32 + 112) (h.toNat % 1024 * 8192) (by rw [hWord_toNat, if_neg hb]; omega)
      (by rw [hWord_toNat, if_neg hb]; omega) (by rw [hWord_toNat, if_neg hb]; omega)
    rw [if_neg (show ¬ h.toNat / 1024 % 32 = 2 ^ 5 - 1 by omega), if_neg (show ¬ h.toNat / 1024 % 32 = 0 by omega)] at e1
    rw [if_neg (show ¬ h.toNat / 1024 % 32 + 112 = 2 ^ 8 - 1 by omega), if_neg (show ¬ h.toNat / 1024 % 32 + 112 = 0 by omega)] at e2
    rw [e1, e2]
    have e3 : (2 : ℝ) ^ (((h.toNat / 1024 % 32 + 112 : ℕ) : ℤ) - (2 ^ (8 - 1) - 1 : ℤ) - (23 : ℕ)) = (2 : ℝ) ^ (((h.toNat / 1024 % 32 : ℕ) : ℤ) - (2 ^ (5 - 1) - 1 : ℤ) - (10 : ℕ)) * (2 : ℝ) ^ (-13 : ℤ) := by
      rw [← zpow_add₀ (by norm_num)]; congr 1; push_cast; ring
    rw [e3]
    congr 1
    have e5 : ((2 ^ 23 + h.toNat % 1024 * 8192 : ℕ) : ℝ) * (2 : ℝ) ^ (-13 : ℤ) = ((2 ^ 10 + h.toNat % 1024 : ℕ) : ℝ) := by
      push_cast; norm_num; ring
    rw [← e5]
    ring

/-! ## The payloads at an index -/

open Cert.KernelIdeal Cert.KernelIdeal.Gen

theorem ofBool_one (b : Bool) : BitVec.ofBool b = 1 ↔ b = true := by cases b <;> decide

theorem select_pos {α : Type} {c : BitVec 1} {a b : α} (h : c = 1) : Scalar.select c a b = a := if_pos h
theorem select_neg {α : Type} {c : BitVec 1} {a b : α} (h : ¬ c = 1) : Scalar.select c a b = b := if_neg h

theorem half_select (h : BitVec 16) :
    Scalar.select (IntOp.cmpi .slt (hMag h) 1024#32)
      (Scalar.select (IntOp.cmpi .slt (hSign h) 0#32) (0 - (Ideal.ofBits .f32 (hSub h) - Ideal.ofBits .f32 0x38800000#32)) (Ideal.ofBits .f32 (hSub h) - Ideal.ofBits .f32 0x38800000#32))
      (Ideal.ofBits .f32 ((hBits h + Scalar.select (IntOp.cmpi .sge (hMag h) 31744#32) 1879048192#32 939524096#32) ||| hSign h)) = half h := by
  have hl := h.isLt
  have c1 : IntOp.cmpi .slt (hMag h) 1024#32 = 1 ↔ h.toNat % 32768 < 1024 := by
    simp only [IntOp.cmpi]
    rw [ofBool_one, BitVec.slt_eq_decide, decide_eq_true_iff, BitVec.toInt_eq_toNat_of_lt (x := hMag h) (by rw [hMag_toNat]; omega), hMag_toNat,
      show (1024#32).toInt = 1024 from rfl]
    omega
  have c2 : IntOp.cmpi .sge (hMag h) 31744#32 = 1 ↔ 31744 ≤ (hMag h).toNat := by
    simp only [IntOp.cmpi]
    rw [ofBool_one, BitVec.sle_eq_decide, decide_eq_true_iff, BitVec.toInt_eq_toNat_of_lt (x := hMag h) (by rw [hMag_toNat]; omega), hMag_toNat,
      show (31744#32).toInt = 31744 from rfl]
    omega
  have c3 : IntOp.cmpi .slt (hSign h) 0#32 = 1 ↔ h.toNat / 32768 = 1 := by
    simp only [IntOp.cmpi]
    rw [ofBool_one, BitVec.slt_eq_decide, decide_eq_true_iff, BitVec.toInt_eq_toNat_cond, hSign_toNat, show (0#32).toInt = 0 from rfl]
    split <;> omega
  by_cases hm : h.toNat % 32768 < 1024
  · have key := half_sub h hm
    rw [select_pos (c1.2 hm)]
    by_cases hs : h.toNat / 32768 = 1
    · rw [if_pos hs] at key
      rw [select_pos (c3.2 hs), key]
    · rw [if_neg hs] at key
      rw [select_neg (fun e => hs (c3.1 e)), key]
  · have key := half_normal h hm
    rw [select_neg (fun e => hm (c1.1 e)), ← key, hWord]
    by_cases hs : 31744 ≤ (hMag h).toNat
    · rw [if_pos hs, select_pos (c2.2 hs)]
    · rw [if_neg hs, select_neg (fun e => hs (c2.1 e))]

theorem shli_vec (x : BitVec 32) : IntOp.shli .vector x 13#32 = x <<< (13#32) := by
  rw [IntOp.shli, if_pos (by decide)]

/-- The decoding of one pattern in the kernel's own operations. -/
def halfOps {F : FTy → Type} [FloatOps F] (h : BitVec 16) : F .f32 :=
  Scalar.select (IntOp.cmpi .slt (IntOp.andi (h.signExtend 32) 32767#32) 1024#32)
    (Scalar.select (IntOp.cmpi .slt (IntOp.andi (h.signExtend 32) 2147483648#32) 0#32)
      (FloatOps.subf (Scalar.ofBits .f32 0x00000000#32) (FloatOps.subf (FloatOps.ofBits .f32 (IntOp.addi (IntOp.shli .vector (IntOp.andi (h.signExtend 32) 32767#32) 13#32) 947912704#32)) (Scalar.ofBits .f32 0x38800000#32)))
      (FloatOps.subf (FloatOps.ofBits .f32 (IntOp.addi (IntOp.shli .vector (IntOp.andi (h.signExtend 32) 32767#32) 13#32) 947912704#32)) (Scalar.ofBits .f32 0x38800000#32)))
    (FloatOps.ofBits .f32 (IntOp.ori (IntOp.addi (IntOp.shli .vector (IntOp.andi (h.signExtend 32) 32767#32) 13#32)
      (Scalar.select (IntOp.cmpi .sge (IntOp.andi (h.signExtend 32) 32767#32) 31744#32) 1879048192#32 939524096#32)) (IntOp.andi (h.signExtend 32) 2147483648#32)))

theorem pay27_apply {F : FTy → Type} [FloatOps F] (v : Vec F S8x1024 .i16) (i : S8x1024.Idx) : k0_pay27 v i = halfOps (v i) := by
  unfold k0_pay27 halfOps
  rw [shapeCast_self]
  rfl

theorem halfOps_eq (h : BitVec 16) : halfOps (F := Ideal) h = half h := by
  have key := half_select h
  rw [← key]
  unfold halfOps
  rw [shli_vec]
  simp only [Ideal.subf_def, Ideal.ofBits_def]
  rw [Ideal.ofBits_zero_f32]
  unfold hSub hBits hMag hSign IntOp.andi IntOp.ori IntOp.addi
  with_reducible rfl

/-- The decoded factors at an index. -/
theorem half_apply (v : Vec Ideal S8x1024 .i16) (i : S8x1024.Idx) : (k0_pay27 v : FVec Ideal S8x1024 .f32) i = half (v i) :=
  (pay27_apply v i).trans (halfOps_eq (v i))
end Cert.KernelIdeal.Val
end
-- ==== Proof.Tile.lean ====
/- A subtile of the output at an index: the sum, over the superblocks and their weights' rows, of an activation times a dequantized weight. -/
module

public import proofs.«01_k».proof.Proof.Body
public import Idealize.ShloMosaic.Lib.Pointwise.Tactic

@[expose] public section
noncomputable section
namespace Cert.KernelIdeal.Val
open Idealize.ShloMosaic Cert.KernelIdeal Cert.KernelIdeal.Gen

/-- A packed byte's low or high four bits. -/
def nib (h : ℕ) (b : BitVec 8) : BitVec 32 := if h = 0 then IntOp.andi (b.setWidth 32) 15#32 else IntOp.shrsi .vector (b.setWidth 32) 4#32

theorem pairRows_apply (raw : Vec Ideal S1x1x2x256 .bf16) (i : Fin 64) (j : Fin 256) :
    pairRows raw (ix2 i j) = raw (ix4 0 0 ⟨i.val % 2, Nat.mod_lt _ (by decide)⟩ j) := by
  unfold pairRows
  pointwise
  rcases Nat.mod_two_eq_zero_or_one i.val with h | h <;> simp only [h] <;> rfl

theorem pay78_apply (codes : Vec Ideal S256x128 .i8) (i : Fin 256) (j : Fin 256) :
    (k0_pay78 codes : FVec Ideal S256x256 .bf16) (ix2 i j) = FloatOps.sitofp .bf16 (nib (i.val % 2) (codes (ix2 j ⟨i.val / 2, by omega⟩))) := by
  unfold k0_pay78
  pointwise
  rcases Nat.mod_two_eq_zero_or_one i.val with h | h <;> simp [h, nib]

theorem wRows_apply (p : Fin 4) (h : S256x256.Slices ![64 * p.val, 0] S64x256) (q : FVec Ideal S256x256 .bf16) (s o : Vec Ideal S1x1x2x256 .bf16) (i : Fin 64) (j : Fin 256) :
    wRows ![64 * p.val, 0] h q s o (ix2 i j) = q (ix2 ⟨64 * p.val + i.val, by omega⟩ j) * s (ix4 0 0 ⟨i.val % 2, Nat.mod_lt _ (by decide)⟩ j) - o (ix4 0 0 ⟨i.val % 2, Nat.mod_lt _ (by decide)⟩ j) := by
  unfold wRows
  pointwise [pairRows_apply]

/-- One dequantized weight: a superblock's row `i` at column `j`. -/
def wt (codes : Vec Ideal S256x128 .i8) (s o : Fin 4 → Vec Ideal S1x1x2x256 .bf16) (i j : Fin 256) : EReal :=
  FloatOps.sitofp (F := Ideal) .bf16 (nib (i.val % 2) (codes (ix2 j ⟨i.val / 2, by omega⟩))) * s ⟨i.val / 64, by omega⟩ (ix4 0 0 ⟨i.val % 2, Nat.mod_lt _ (by decide)⟩ j)
    - o ⟨i.val / 64, by omega⟩ (ix4 0 0 ⟨i.val % 2, Nat.mod_lt _ (by decide)⟩ j)

theorem wTile_apply (codes : Vec Ideal S256x128 .i8) (s o : Fin 4 → Vec Ideal S1x1x2x256 .bf16) (i j : Fin 256) :
    wTile codes s o (ix2 i j) = wt codes s o i j := by
  have key : ∀ (p : Fin 4) (off : Fin 2 → ℕ) (h : S256x256.Slices off S64x256) (k : Fin 64), off = ![64 * p.val, 0] → i.val = 64 * p.val + k.val →
      wRows off h (k0_pay78 codes) (s p) (o p) (ix2 k j) = wt codes s o i j := by
    rintro p off h k rfl hk
    rw [wRows_apply, pay78_apply, wt]
    have e1 : (⟨i.val / 64, by omega⟩ : Fin 4) = p := Fin.ext (by show i.val / 64 = p.val; omega)
    have e2 : (64 * p.val + k.val) = i.val := hk.symm
    have e3 : k.val % 2 = i.val % 2 := by omega
    simp only [e1, e2, e3]
  have hi := i.isLt
  unfold wTile
  generalize hW : (fun (p : Fin 4) (off : Fin 2 → ℕ) (h : S256x256.Slices off S64x256) => wRows off h (k0_pay78 codes) (s p) (o p)) = W at key
  have e0 : ∀ (p : Fin 4) (off : Fin 2 → ℕ) (h : S256x256.Slices off S64x256), wRows off h (k0_pay78 codes) (s p) (o p) = W p off h := by rw [← hW]; intros; rfl
  simp only [e0] at key ⊢
  pointwise
  by_cases h1 : i.val < 64
  · rw [dif_pos h1]
    exact key 0 _ _ ⟨i.val, h1⟩ rfl (by show i.val = 64 * 0 + i.val; omega)
  rw [dif_neg h1]
  by_cases h2 : i.val - 64 < 64
  · rw [dif_pos h2]
    exact key 1 _ _ ⟨i.val - 64, h2⟩ rfl (by show i.val = 64 * 1 + (i.val - 64); omega)
  rw [dif_neg h2]
  by_cases h3 : i.val - 64 - 64 < 64
  · rw [dif_pos h3]
    exact key 2 _ _ ⟨i.val - 64 - 64, h3⟩ rfl (by show i.val = 64 * 2 + (i.val - 64 - 64); omega)
  rw [dif_neg h3]
  exact key 3 _ _ ⟨i.val - 64 - 64 - 64, by omega⟩ rfl (by show i.val = 64 * 3 + (i.val - 64 - 64 - 64); omega)

theorem term_apply (x : Vec Ideal S256x256 .bf16) (codes : Vec Ideal S256x128 .i8) (s o : Fin 4 → Vec Ideal S1x1x2x256 .bf16) (i j : Fin 256) :
    term x codes s o (ix2 i j) = ∑ k : Fin 256, x (ix2 i k) * wt codes s o k j := by
  unfold term
  pointwise [wTile_apply]

theorem subtile_apply (x : Fin 8 → Vec Ideal S256x256 .bf16) (q : Fin 8 → Vec Ideal S256x128 .i8) (s o : Fin 8 → Fin 4 → Vec Ideal S1x1x2x256 .bf16) (i j : Fin 256) :
    subtile x q s o (ix2 i j) = ∑ n : Fin 8, ∑ k : Fin 256, x n (ix2 i k) * wt (q n) (s n) (o n) k j := by
  unfold subtile
  rw [Fin.sum_univ_eight]
  pointwise [term_apply]

theorem scalePair_apply (d : FVec Ideal S8x1024 .f32) (u v : IVec S8x1024 32) (n : Fin 8) (h : Fin 2) (l : Fin 1024) :
    scalePair d u v (ix4 0 n h l) = d (ix2 n l) * FloatOps.sitofp (F := Ideal) .f32 (if h.val = 0 then u (ix2 n l) else v (ix2 n l)) := by
  unfold scalePair
  pointwise
  have := h.isLt
  by_cases hh : h.val = 0
  · simp [hh]
  · have : h.val = 1 := by omega
    simp [this]

/-- The lane read by each lane of a column. -/
theorem lane : ∀ r : Fin 128,
    (Scalar.select
      (IntOp.cmpi CmpIPredicate.slt (IntOp.ori (IntOp.ori (IntOp.andi (BitVec.ofNat 32 r.val) 64#32) (IntOp.shli ArithUnit.vector (IntOp.andi (BitVec.ofNat 32 r.val) 1#32) 5#32))
        (IntOp.shrsi ArithUnit.vector (IntOp.andi (BitVec.ofNat 32 r.val) 63#32) 1#32)) 0#32)
      (IntOp.addi (IntOp.ori (IntOp.ori (IntOp.andi (BitVec.ofNat 32 r.val) 64#32) (IntOp.shli ArithUnit.vector (IntOp.andi (BitVec.ofNat 32 r.val) 1#32) 5#32))
        (IntOp.shrsi ArithUnit.vector (IntOp.andi (BitVec.ofNat 32 r.val) 63#32) 1#32)) 128#32)
      (IntOp.ori (IntOp.ori (IntOp.andi (BitVec.ofNat 32 r.val) 64#32) (IntOp.shli ArithUnit.vector (IntOp.andi (BitVec.ofNat 32 r.val) 1#32) 5#32))
        (IntOp.shrsi ArithUnit.vector (IntOp.andi (BitVec.ofNat 32 r.val) 63#32) 1#32))).toNat % 128
      = 64 * (r.val / 64) + 32 * (r.val % 2) + r.val / 2 % 32 := by
  decide +kernel

theorem gathered_apply (x : Vec Ideal S256x2048 .bf16) (k : Fin 16) (b : Fin 256) (r : Fin 128) :
    gathered x k (ix2 b r) = x (ix2 b ⟨128 * k.val + (64 * (r.val / 64) + 32 * (r.val % 2) + r.val / 2 % 32), by omega⟩) := by
  unfold gathered source k0_pay2 k0_pay3
  pointwise
  simp only [lane]

theorem interleaved_ofFn {F : FTy → Type} [FloatOps F] (x : Vec F S256x2048 .bf16) (i : S256x2048.Idx) :
    interleaved x i = FloatOps.truncf .bf16 bitsLt_bf16_f32 (concatenate S256x2048 1 (List.ofFn fun k : Fin 16 => (⟨S256x128, gathered x k⟩ : (s : Shape) × (s.Idx → F .f32)))
      concatenates_S256x128_S256x128_S256x128_S256x128_S256x128_S256x128_S256x128_S256x128_S256x128_S256x128_S256x128_S256x128_S256x128_S256x128_S256x128_S256x128_S256x2048_d1 i) := by
  unfold interleaved
  rw [shapeCast_self]
  rfl

/-- The activations kept: within each 64 columns, the two halves interleaved. -/
theorem interleaved_apply (x : Vec Ideal S256x2048 .bf16) (b : Fin 256) (l : Fin 2048) :
    interleaved x (ix2 b l) = x (ix2 b ⟨64 * (l.val / 64) + 32 * (l.val % 2) + l.val / 2 % 32, by omega⟩) := by
  rw [interleaved_ofFn, Ideal.truncf_def]
  have hl := l.isLt
  refine (concatenate_ofFn_apply (t := S256x2048) (s₁ := S256x128) (1 : Fin 2) (gathered x) _ rfl 128 rfl (ix2 b l) ⟨l.val / 128, by omega⟩ rfl (ix2 b ⟨l.val % 128, by omega⟩) rfl
    (by intro c hc; fin_cases c; · rfl
        · exact absurd rfl hc)).trans ?_
  rw [gathered_apply]
  congr 2
  apply Fin.ext
  show 128 * (l.val / 128) + (64 * (l.val % 128 / 64) + 32 * (l.val % 128 % 2) + l.val % 128 / 2 % 32) = 64 * (l.val / 64) + 32 * (l.val % 2) + l.val / 2 % 32
  omega
end Cert.KernelIdeal.Val
end
-- ==== Proof.Point.lean ====
/- What one grid point leaves in its output block, at an index, in the blocks it reads. -/
module

public import proofs.«01_k».proof.Proof.Half
public import proofs.«01_k».proof.Proof.Tile

@[expose] public section
noncomputable section
namespace Cert.KernelIdeal.Val
open Idealize.ShloMosaic Cert.KernelIdeal Cert.KernelIdeal.Gen

/-! ## The stored scales -/

/-- Scale `i` of eight from the bytes that hold them. -/
def kW (sh : BitVec 32) (b u : Fin 4 → BitVec 32) (i : Fin 8) : BitVec 32 :=
  if h : i.val < 4 then IntOp.andi (b ⟨i.val, h⟩) 63#32
  else IntOp.ori (IntOp.andi (IntOp.shrsi .vector (u ⟨i.val - 4, by omega⟩) sh) 15#32) (IntOp.andi (IntOp.shrsi .vector (b ⟨i.val - 4, by omega⟩) 2#32) 48#32)

/-- The scale buffer: a superblock's factor times a scale. -/
def scG (d : FVec Ideal S8x1024 .f32) (sh : BitVec 32) (b u : Fin 4 → IVec S8x1024 32) (p : Fin 4) (n : Fin 8) (h : Fin 2) (l : Fin 1024) : EReal :=
  d (ix2 n l) * FloatOps.sitofp (F := Ideal) .f32 (kW sh (fun k => b k (ix2 n l)) (fun k => u k (ix2 n l)) ⟨2 * p.val + h.val, by omega⟩)

theorem scalePair_scG (d : FVec Ideal S8x1024 .f32) (sh : BitVec 32) (b u : Fin 4 → IVec S8x1024 32) (p : Fin 4) (v w : IVec S8x1024 32)
    (hv : ∀ n l, v (ix2 n l) = kW sh (fun k => b k (ix2 n l)) (fun k => u k (ix2 n l)) ⟨2 * p.val + 0, by omega⟩)
    (hw : ∀ n l, w (ix2 n l) = kW sh (fun k => b k (ix2 n l)) (fun k => u k (ix2 n l)) ⟨2 * p.val + 1, by omega⟩)
    (n : Fin 8) (h : Fin 2) (l : Fin 1024) : scalePair d v w (ix4 0 n h l) = scG d sh b u p n h l := by
  rw [scalePair_apply, scG]
  fin_cases h
  · rw [if_pos rfl, hv]
  · rw [if_neg (by decide), hw]

theorem rP_emb (p : Fin 4) (x : S1x8x2x1024.Idx) : (rP p).emb x = ix4 p (x 1) (x 2) (x 3) := by
  have h0 : (x 0).val < 1 := (x 0).isLt
  funext a
  apply Fin.ext
  refine (Rect.idx_unit_val (s := S4x8x2x1024) ![p.val, 0, 0, 0] S1x8x2x1024.size _ x a).trans ?_
  fin_cases a
  · show p.val + (x 0).val = p.val; omega
  · exact Nat.zero_add _
  · exact Nat.zero_add _
  · exact Nat.zero_add _

theorem canon_scale (d : FVec Ideal S8x1024 .f32) (sh : BitVec 32) (b u : Fin 4 → IVec S8x1024 32) (p : Fin 4) (n : Fin 8) (h : Fin 2) (l : Fin 1024) :
    View.canon (scalePieces d sh b u) (ix4 p n h l) = scG d sh b u p n h l := by
  refine (View.canon_apply_of_pieces (fun y : S4x8x2x1024.Idx => scG d sh b u (y 0) (y 1) (y 2) (y 3)) (scalePieces d sh b u) ?_ (ix4 p n h l) ?_).trans rfl
  · have piece : ∀ (p : Fin 4) (v w : IVec S8x1024 32)
        (_ : ∀ n l, v (ix2 n l) = kW sh (fun k => b k (ix2 n l)) (fun k => u k (ix2 n l)) ⟨2 * p.val + 0, by omega⟩)
        (_ : ∀ n l, w (ix2 n l) = kW sh (fun k => b k (ix2 n l)) (fun k => u k (ix2 n l)) ⟨2 * p.val + 1, by omega⟩) (x : S1x8x2x1024.Idx),
        scalePair d v w x = scG d sh b u ((rP p).emb x 0) ((rP p).emb x 1) ((rP p).emb x 2) ((rP p).emb x 3) := by
      intro p v w hv hw x
      rw [rP_emb]
      have hx : x = ix4 0 (x 1) (x 2) (x 3) := by
        funext a; fin_cases a
        · exact Fin.ext (by have : (x 0).val < 1 := (x 0).isLt; show (x 0).val = 0; omega)
        all_goals rfl
      rw [hx]
      exact scalePair_scG d sh b u p v w hv hw _ _ _
    intro q hq
    simp only [scalePieces, List.mem_cons, List.not_mem_nil, or_false] at hq
    rcases hq with rfl | rfl | rfl | rfl
    · exact piece 3 _ _ (fun _ _ => rfl) (fun _ _ => rfl)
    · exact piece 2 _ _ (fun _ _ => rfl) (fun _ _ => rfl)
    · exact piece 1 _ _ (fun _ _ => rfl) (fun _ _ => rfl)
    · exact piece 0 _ _ (fun _ _ => rfl) (fun _ _ => rfl)
  · have mem : ∀ v : Vec Ideal S1x8x2x1024 .bf16, ix4 p n h l ∈ (⟨rP p, v⟩ : View.Piece (Elt Ideal) S4x8x2x1024 .bf16).1.set := by
      intro v
      show ix4 p n h l ∈ (rP p).set
      unfold rP
      rw [Rect.mem_set_unit]
      intro a
      have := n.isLt; have := h.isLt; have := l.isLt
      fin_cases a <;> simp <;> omega
    fin_cases p
    · exact ⟨_, List.mem_cons_of_mem _ (List.mem_cons_of_mem _ (List.mem_cons_of_mem _ List.mem_cons_self)), mem _⟩
    · exact ⟨_, List.mem_cons_of_mem _ (List.mem_cons_of_mem _ List.mem_cons_self), mem _⟩
    · exact ⟨_, List.mem_cons_of_mem _ List.mem_cons_self, mem _⟩
    · exact ⟨_, List.mem_cons_self, mem _⟩

/-! ## One point's block -/

/-- One dequantized weight of the block: output column `l`, superblock `n`, row `k` of its 256. -/
def wAt (x1 : Vec Ideal S1024x1024 .i8) (x2 x3 : Vec Ideal S8x1024 .i16) (x4 : Vec Ideal S12x8x1024 .i8) (l : Fin 1024) (n : Fin 8) (k : Fin 256) : EReal :=
  FloatOps.sitofp (F := Ideal) .bf16 (nib (k.val % 2) (x1 (ix2 l ⟨128 * n.val + k.val / 2, by omega⟩)))
      * (half (x2 (ix2 n l)) * FloatOps.sitofp (F := Ideal) .f32 (kW 0#32 (fun r : Fin 4 => (x4 (ix3 ⟨r.val, by omega⟩ n l)).setWidth 32)
          (fun r : Fin 4 => (x4 (ix3 ⟨8 + r.val, by omega⟩ n l)).setWidth 32) ⟨2 * (k.val / 64) + k.val % 2, by omega⟩))
    - half (x3 (ix2 n l)) * FloatOps.sitofp (F := Ideal) .f32 (kW 4#32 (fun r : Fin 4 => (x4 (ix3 ⟨4 + r.val, by omega⟩ n l)).setWidth 32)
          (fun r : Fin 4 => (x4 (ix3 ⟨8 + r.val, by omega⟩ n l)).setWidth 32) ⟨2 * (k.val / 64) + k.val % 2, by omega⟩)

/-- One element of the output block. -/
def pt (xp : Vec Ideal S256x2048 .bf16) (x1 : Vec Ideal S1024x1024 .i8) (x2 x3 : Vec Ideal S8x1024 .i16) (x4 : Vec Ideal S12x8x1024 .i8) (i : Fin 256) (l : Fin 1024) : EReal :=
  ∑ n : Fin 8, ∑ k : Fin 256, xp (ix2 i ⟨256 * n.val + k.val, by omega⟩) * wAt x1 x2 x3 x4 l n k

/-- The scale bytes of one row, widened. -/
theorem pay32_apply (x4 : Vec Ideal S12x8x1024 .i8) (r : Fin 12) (n : Fin 8) (l : Fin 1024) :
    k0_pay32 (F := Ideal) (View.ld x4 (rB r)) (ix2 n l) = (x4 (ix3 r n l)).setWidth 32 := by
  unfold k0_pay32 rB
  pointwise

/-- The scale buffer's pieces as the body stores them, read. -/
def sPieces (sh : BitVec 32) (f : Fin 4 → Fin 12) (x2 : Vec Ideal S8x1024 .i16) (x4 : Vec Ideal S12x8x1024 .i8) : List (View.Piece (Elt Ideal) S4x8x2x1024 .bf16) :=
  scalePieces (k0_pay27 (View.ld x2 rD)) sh (fun k => k0_pay32 (F := Ideal) (View.ld x4 (rB (f k)))) (fun k => k0_pay32 (F := Ideal) (View.ld x4 (rB (k.natAdd 8))))

theorem sPieces_apply (sh : BitVec 32) (f : Fin 4 → Fin 12) (x2 : Vec Ideal S8x1024 .i16) (x4 : Vec Ideal S12x8x1024 .i8) (p : Fin 4) (n : Fin 8) (h : Fin 2) (l : Fin 1024) :
    View.canon (sPieces sh f x2 x4) (ix4 p n h l) = half (x2 (ix2 n l)) * FloatOps.sitofp (F := Ideal) .f32 (kW sh (fun r : Fin 4 => (x4 (ix3 (f r) n l)).setWidth 32)
          (fun r : Fin 4 => (x4 (ix3 ⟨8 + r.val, by omega⟩ n l)).setWidth 32) ⟨2 * p.val + h.val, by omega⟩) := by
  refine (canon_scale _ _ _ _ p n h l).trans ?_
  unfold scG
  refine congrArg₂ (· * ·) ((half_apply _ _).trans (congrArg half (congrFun (View.ld_unit_lit' _ _ (by decide)) _))) (congrArg (FloatOps.sitofp (F := Ideal) .f32) ?_)
  exact congrArg₂ (fun b u => kW sh b u _) (funext fun _ => pay32_apply _ _ _ _) (funext fun _ => pay32_apply _ _ _ _)

theorem rS_emb (c : Fin 4) (n : Fin 8) (p : Fin 4) (h : Fin 2) (j : Fin 256) : (rS c n p).emb (ix4 0 0 h j : S1x1x2x256.Idx) = ix4 p n h ⟨256 * c.val + j.val, by omega⟩ := by
  funext a
  apply Fin.ext
  refine (Rect.idx_unit_val (s := S4x8x2x1024) ![p.val, n.val, 0, 256 * c.val] S1x1x2x256.size _ (ix4 0 0 h j : S1x1x2x256.Idx) a).trans ?_
  fin_cases a
  · rfl
  · rfl
  · exact Nat.zero_add _
  · rfl

theorem wt_eq (x1 : Vec Ideal S1024x1024 .i8) (x2 x3 : Vec Ideal S8x1024 .i16) (x4 : Vec Ideal S12x8x1024 .i8) (c : Fin 4) (n : Fin 8) (k j : Fin 256) :
    wt (View.ld x1 (rQ c n)) (fun p => View.ld (View.canon (sPieces 0#32 (fun k => k.castAdd 8) x2 x4)) (rS c n p))
      (fun p => View.ld (View.canon (sPieces 4#32 (fun k => (k.natAdd 4).castAdd 4) x3 x4)) (rS c n p)) k j
      = wAt x1 x2 x3 x4 ⟨256 * c.val + j.val, by omega⟩ n k := by
  have e : ∀ (X : Vec Ideal S4x8x2x1024 .bf16) (p : Fin 4) (h : Fin 2), View.ld X (rS c n p) (ix4 0 0 h j : S1x1x2x256.Idx) = X (ix4 p n h ⟨256 * c.val + j.val, by omega⟩) :=
    fun X p h => congrArg X (rS_emb c n p h j)
  have eq : View.ld x1 (rQ c n) (ix2 j ⟨k.val / 2, by omega⟩ : S256x128.Idx) = x1 (ix2 ⟨256 * c.val + j.val, by omega⟩ ⟨128 * n.val + k.val / 2, by omega⟩) := by
    unfold rQ
    pointwise
  unfold wt wAt
  exact congrArg₂ (· - ·) (congrArg₂ (· * ·) (congrArg (fun b => FloatOps.sitofp (F := Ideal) .bf16 (nib (k.val % 2) b)) eq) ((e _ _ _).trans (sPieces_apply _ _ _ _ _ _ _ _)))
    ((e _ _ _).trans (sPieces_apply _ _ _ _ _ _ _ _))

theorem rY_emb (c : Fin 4) (x : S256x256.Idx) : (rY c).emb x = ix2 (x 0) ⟨256 * c.val + (x 1).val, by have : (x 1).val < 256 := (x 1).isLt; omega⟩ := by
  funext a
  apply Fin.ext
  refine (Rect.idx_unit_val (s := S256x1024) ![0, 256 * c.val] S256x256.size _ x a).trans ?_
  fin_cases a
  · exact Nat.zero_add _
  · rfl

/-- Subtile `c`, as the body stores it. -/
def ySub (xp : Vec Ideal S256x2048 .bf16) (x1 : Vec Ideal S1024x1024 .i8) (x2 x3 : Vec Ideal S8x1024 .i16) (x4 : Vec Ideal S12x8x1024 .i8) (c : Fin 4) : Vec Ideal S256x256 .bf16 :=
  subtile (F := Ideal) (fun n => View.ld xp (rX n)) (fun n => View.ld x1 (rQ c n))
    (fun n p => View.ld (View.canon (sPieces 0#32 (fun k => k.castAdd 8) x2 x4)) (rS c n p))
    (fun n p => View.ld (View.canon (sPieces 4#32 (fun k => (k.natAdd 4).castAdd 4) x3 x4)) (rS c n p))

theorem ySub_apply (xp : Vec Ideal S256x2048 .bf16) (x1 : Vec Ideal S1024x1024 .i8) (x2 x3 : Vec Ideal S8x1024 .i16) (x4 : Vec Ideal S12x8x1024 .i8) (c : Fin 4) (i j : Fin 256) :
    ySub xp x1 x2 x3 x4 c (ix2 i j) = pt xp x1 x2 x3 x4 i ⟨256 * c.val + j.val, by omega⟩ := by
  unfold ySub pt
  refine (subtile_apply _ _ _ _ i j).trans ?_
  refine Finset.sum_congr rfl fun n _ => Finset.sum_congr rfl fun k _ => ?_
  have eX : View.ld xp (rX n) (ix2 i k : S256x256.Idx) = xp (ix2 i ⟨256 * n.val + k.val, by omega⟩) := by
    unfold rX
    pointwise
  exact congrArg₂ (· * ·) eX (wt_eq x1 x2 x3 x4 c n k j)

/-- The four stores of the output block, the loads read. -/
def yPieces (xp : Vec Ideal S256x2048 .bf16) (x1 : Vec Ideal S1024x1024 .i8) (x2 x3 : Vec Ideal S8x1024 .i16) (x4 : Vec Ideal S12x8x1024 .i8) : List (View.Piece (Elt Ideal) S256x1024 .bf16) :=
  [3, 2, 1, 0].map fun k : Fin 4 => (⟨rY k, ySub xp x1 x2 x3 x4 k⟩ : View.Piece (Elt Ideal) S256x1024 .bf16)

/-- One point's output block. -/
theorem yPieces_apply (xp : Vec Ideal S256x2048 .bf16) (x1 : Vec Ideal S1024x1024 .i8) (x2 x3 : Vec Ideal S8x1024 .i16) (x4 : Vec Ideal S12x8x1024 .i8) (i : Fin 256) (l : Fin 1024) :
    View.canon (yPieces xp x1 x2 x3 x4) (ix2 i l) = pt xp x1 x2 x3 x4 i l := by
  refine (View.canon_apply_of_pieces (fun y : S256x1024.Idx => pt xp x1 x2 x3 x4 (y 0) (y 1)) (yPieces xp x1 x2 x3 x4) ?_ (ix2 i l) ?_).trans rfl
  · intro q hq
    obtain ⟨c, -, rfl⟩ := List.mem_map.1 hq
    intro (x : S256x256.Idx)
    have hx : x = ix2 (x 0) (x 1) := by funext a; fin_cases a <;> rfl
    show ySub xp x1 x2 x3 x4 c x = pt xp x1 x2 x3 x4 ((rY c).emb x 0) ((rY c).emb x 1)
    rw [rY_emb, hx]
    exact ySub_apply xp x1 x2 x3 x4 c _ _
  · have hc : l.val / 256 < 4 := by omega
    refine ⟨_, List.mem_map_of_mem (a := (⟨l.val / 256, hc⟩ : Fin 4)) ?_, ?_⟩
    · have : ∀ c : Fin 4, c ∈ ([3, 2, 1, 0] : List (Fin 4)) := by decide
      exact this _
    · show ix2 i l ∈ (rY ⟨l.val / 256, hc⟩).set
      unfold rY
      rw [Rect.mem_set_unit]
      intro a
      have := i.isLt; have := l.isLt
      fin_cases a <;> simp <;> omega
end Cert.KernelIdeal.Val
end
-- ==== Proof.Sweep.lean ====
/- What the points of the grid leave: the activations rearranged once, and every point's output block a sum over them. -/
module

public import proofs.«01_k».proof.Proof.BodyA
public import proofs.«01_k».proof.Proof.BodyB
public import proofs.«01_k».proof.Proof.Point

@[expose] public section
noncomputable section
namespace Cert.KernelIdeal.Val
open Idealize.ShloMosaic Idealize.ShloMosaic.TcCoe Idealize.SL.Sem Cert.KernelIdeal Cert.KernelIdeal.Gen

section Point
variable (c : Dev nD) (i : grid0.Coords) (arg1 : Memref sig .tc .vmem S256x2048 .bf16) (harg1 : arg1.IsWhole) (arg2 : Memref sig .tc .vmem S1024x1024 .i8) (harg2 : arg2.IsWhole) (arg3 : Memref sig .tc .vmem S8x1024 .i16) (harg3 : arg3.IsWhole) (arg4 : Memref sig .tc .vmem S8x1024 .i16) (harg4 : arg4.IsWhole) (arg5 : Memref sig .tc .vmem S12x8x1024 .i8) (harg5 : arg5.IsWhole) (arg6 : Memref sig .tc .vmem S256x1024 .bf16) (harg6 : arg6.IsWhole) (arg7 : Memref sig .tc .vmem S256x2048 .bf16) (harg7 : arg7.IsWhole) (arg8 : Memref sig .tc .vmem S4x8x2x1024 .bf16) (harg8 : arg8.IsWhole) (arg9 : Memref sig .tc .vmem S4x8x2x1024 .bf16) (harg9 : arg9.IsWhole)
  (x0 : Vec Ideal S256x2048 .bf16) (x1 : Vec Ideal S1024x1024 .i8) (x2 : Vec Ideal S8x1024 .i16) (x3 : Vec Ideal S8x1024 .i16) (x4 : Vec Ideal S12x8x1024 .i8)

theorem readCov_ld {S : Shape} {e : EltTy} (v : View sig .tc .vmem S e) (L : List (View.Piece (Elt Ideal) S e)) (r : Rect S) :
    v.readCov L r.toLoadRect = View.ld (View.canon L) r := View.readCov_eq_canon' v L r

theorem readAt_ld {S : Shape} {e : EltTy} (a : Memref sig .tc .vmem S e) (h : a.IsWhole) (x : Vec Ideal S e) (r : Rect S) :
    View.readAt (Elt Ideal) a.view r.toLoadRect (h.unread x) = View.ld x r := by
  rw [View.readAt_eq_ld, h.read_unread]

theorem out_B (hc0 : ¬cond0_0 i) (xs0 : Vec Ideal S256x2048 .bf16) :
    out0_B_5 (F := Ideal) c i arg1 harg1 arg2 harg2 arg3 harg3 arg4 harg4 arg5 harg5 arg6 harg6 arg7 harg7 arg8 harg8 arg9 harg9 hc0 x0 x1 x2 x3 x4 xs0
      = View.canon (yPieces xs0 x1 x2 x3 x4) := by
  unfold out0_B_5
  rw [View.read_writes_junk_eq_canon, pieces_B, scales_B, mins_B]
  simp only [readAt_ld, readCov_ld]
  rfl

theorem sout_A (hc0 : cond0_0 i) :
    sout0_A_0 (F := Ideal) c i arg1 harg1 arg2 harg2 arg3 harg3 arg4 harg4 arg5 harg5 arg6 harg6 arg7 harg7 arg8 harg8 arg9 harg9 hc0 x0 x1 x2 x3 x4
      = interleaved x0 := by
  unfold sout0_A_0
  rw [View.read_writes_junk_eq_canon, carried_A, acts_A, readAt_ld]
  rw [show View.ld x0 rA = x0 from View.ld_unit_lit' _ _ (by decide)]
  exact View.canon_cons_unit_lit' _ _ _ (by decide)

theorem out_A (hc0 : cond0_0 i) :
    out0_A_5 (F := Ideal) c i arg1 harg1 arg2 harg2 arg3 harg3 arg4 harg4 arg5 harg5 arg6 harg6 arg7 harg7 arg8 harg8 arg9 harg9 hc0 x0 x1 x2 x3 x4
      = View.canon (yPieces (interleaved x0) x1 x2 x3 x4) := by
  have e0 : View.ld x0 rA = x0 := View.ld_unit_lit' _ _ (by decide)
  have e1 : View.canon ([⟨rA, interleaved (View.ld x0 rA)⟩] : List (View.Piece (Elt Ideal) S256x2048 .bf16)) = interleaved x0 :=
    (View.canon_cons_unit_lit' _ _ _ (by decide)).trans (congrArg interleaved e0)
  unfold out0_A_5
  rw [View.read_writes_junk_eq_canon, pieces_A, scales_A, mins_A, acts_A]
  simp only [readAt_ld, readCov_ld]
  rw [e1]
  rfl
end Point

variable (m : (ℓ : Loc nD τ sig) → Buf (Elt Ideal) ℓ)

/-- After every point the scratch holds the rearranged activations. -/
theorem carried (c : Dev nD) : ∀ (n : ℕ) (hn : n < cfg0.N), (outsAt0 m c n hn).2 = interleaved (iblk m c 0 ⟨0, by omega⟩)
  | 0, hn => by
    rw [outsAt0_A m c ⟨0, hn⟩ rfl]
    dsimp only
    rw [sout_A]
  | n + 1, hn => by
    have h : ¬ (n + 1) % 16 = 0 := by have : cfg0.N = 16 := N_0; omega
    rw [outsAt0_B m c ⟨n + 1, hn⟩ h]
    dsimp only
    unfold sout0_B_0
    exact carried c n _

/-- After point `t` the output block holds the point's sums. -/
theorem outs_apply (c : Dev nD) (t : Fin cfg0.N) (i : Fin 256) (l : Fin 1024) :
    (outsAt0 m c t.val t.isLt).1 (ix2 i l) = pt (interleaved (iblk m c 0 ⟨0, by have := t.isLt; omega⟩)) (iblk m c 1 t) (iblk m c 2 t) (iblk m c 3 t) (iblk m c 4 t) i l := by
  by_cases h0 : t.val % 16 = 0
  · have ht : t = ⟨0, by have := t.isLt; omega⟩ := Fin.ext (by have : cfg0.N = 16 := N_0; have := t.isLt; show t.val = 0; omega)
    rw [outsAt0_A m c t h0]
    dsimp only
    rw [out_A, yPieces_apply]
    rw [ht]
  · rw [outsAt0_B m c t h0]
    dsimp only
    rw [out_B, yPieces_apply]
    rw [carried m c (t.val - 1) _]

end Cert.KernelIdeal.Val
end
-- ==== Proof.Kernel.lean ====
/- The kernel's result array at an index: a sum over the superblocks and their weights' rows, of the arguments' elements. -/
module

public import proofs.«01_k».proof.Proof.Sweep
public import proofs.«01_k».proof.Proof.Gen.KernelIdeal.Value
public import Idealize.ShloMosaic.Lib.StableHlo.ReadAt
public import Idealize.ShloMosaic.Lib.Pipeline.ValueKit.Geometry

@[expose] public section
noncomputable section
namespace Cert.KernelIdeal.Val
open Idealize.ShloMosaic Idealize.ShloMosaic.TcCoe Idealize.SL.Sem Cert.KernelIdeal Cert.KernelIdeal.Gen

variable (m : (ℓ : Loc nD τ sig) → Buf (Elt Ideal) ℓ) (c : Dev nD)

/-- The five arguments, as arrays. -/
abbrev aX : Vec Ideal S256x1x2048 .bf16 := m ((c : Thread nD τ).loc main_arg0)
abbrev aQ : Vec Ideal S16384x1024 .i8 := m ((c : Thread nD τ).loc main_arg1)
abbrev aD : Vec Ideal S16384x8 .i16 := m ((c : Thread nD τ).loc main_arg2)
abbrev aM : Vec Ideal S16384x8 .i16 := m ((c : Thread nD τ).loc main_arg3)
abbrev aS : Vec Ideal S16384x8x12 .i8 := m ((c : Thread nD τ).loc main_arg4)

theorem V0_apply (i : Fin 256) (l : Fin 2048) : V m c main_v0 (ix2 i l) = aX m c (ix3 i 0 l) := by
  unfold V
  after_reads_at

theorem V1_apply (n : Fin 8) (o : Fin 16384) : V m c main_v1 (ix2 n o) = aD m c (ix2 o n) := by
  unfold V
  after_reads_at

theorem V2_apply (n : Fin 8) (o : Fin 16384) : V m c main_v2 (ix2 n o) = aM m c (ix2 o n) := by
  unfold V
  after_reads_at

theorem V3_apply (r : Fin 12) (n : Fin 8) (o : Fin 16384) : V m c main_v3 (ix3 r n o) = aS m c (ix3 o n r) := by
  unfold V
  after_reads_at

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, 0, t.val] := (by decide +kernel : ∀ t : Fin grid0.N, _)
theorem idx5 : ∀ t : Fin cfg0.N, win0_5.index t = ![0, t.val] := (by decide +kernel : ∀ t : Fin grid0.N, _)

theorem pt_lt (t : Fin cfg0.N) : t.val < 16 := t.isLt

/-- Point `t`'s column `l` of the array. -/
def col (t : Fin cfg0.N) (l : Fin 1024) : Fin 16384 := ⟨1024 * t.val + l.val, by have := pt_lt t; omega⟩

theorem blk0_apply (t : Fin cfg0.N) (i : Fin 256) (l : Fin 2048) : iblk m c 0 t (ix2 i l) = aX m c (ix3 i 0 l) := by
  rw [← V0_apply]
  blk_ext [iblk, idx0]

theorem blk1_apply (t : Fin cfg0.N) (l q : Fin 1024) : iblk m c 1 t (ix2 l q) = aQ m c (ix2 (col t l) q) := by
  rw [show aQ m c = V m c main_arg1 from (V_main_arg1 m c).symm]
  unfold col
  blk_ext [iblk, idx1]

theorem blk2_apply (t : Fin cfg0.N) (n : Fin 8) (l : Fin 1024) : iblk m c 2 t (ix2 n l) = aD m c (ix2 (col t l) n) := by
  rw [← V1_apply]
  unfold col
  blk_ext [iblk, idx2]

theorem blk3_apply (t : Fin cfg0.N) (n : Fin 8) (l : Fin 1024) : iblk m c 3 t (ix2 n l) = aM m c (ix2 (col t l) n) := by
  rw [← V2_apply]
  unfold col
  blk_ext [iblk, idx3]

theorem blk4_apply (t : Fin cfg0.N) (r : Fin 12) (n : Fin 8) (l : Fin 1024) : iblk m c 4 t (ix3 r n l) = aS m c (ix3 (col t l) n r) := by
  rw [← V3_apply]
  unfold col
  blk_ext [iblk, idx4]

/-! ## The array -/

/-- The activation that meets a superblock's row: the rearranged column, read back. -/
def srcCol (n : Fin 8) (k : Fin 256) : Fin 2048 := ⟨256 * n.val + 64 * (k.val / 64) + 32 * (k.val % 2) + k.val / 2 % 32, by omega⟩

/-- The dequantized weight of output column `o` at row `k` of superblock `n`. -/
def wgt (Q : Vec Ideal S16384x1024 .i8) (D M : Vec Ideal S16384x8 .i16) (S : Vec Ideal S16384x8x12 .i8) (o : Fin 16384) (n : Fin 8) (k : Fin 256) : EReal :=
  FloatOps.sitofp (F := Ideal) .bf16 (nib (k.val % 2) (Q (ix2 o ⟨128 * n.val + k.val / 2, by omega⟩)))
    * (half (D (ix2 o n)) * FloatOps.sitofp (F := Ideal) .f32
        (kW 0#32 (fun r : Fin 4 => (S (ix3 o n ⟨r.val, by omega⟩)).setWidth 32) (fun r => (S (ix3 o n ⟨8 + r.val, by omega⟩)).setWidth 32) ⟨2 * (k.val / 64) + k.val % 2, by omega⟩))
  - half (M (ix2 o n)) * FloatOps.sitofp (F := Ideal) .f32
        (kW 4#32 (fun r => (S (ix3 o n ⟨4 + r.val, by omega⟩)).setWidth 32) (fun r => (S (ix3 o n ⟨8 + r.val, by omega⟩)).setWidth 32) ⟨2 * (k.val / 64) + k.val % 2, by omega⟩)

/-- The result at row `b` and column `o`. -/
def total (X : Vec Ideal S256x1x2048 .bf16) (Q : Vec Ideal S16384x1024 .i8) (D M : Vec Ideal S16384x8 .i16) (S : Vec Ideal S16384x8x12 .i8)
    (b : Fin 256) (o : Fin 16384) : EReal :=
  ∑ n : Fin 8, ∑ k : Fin 256, X (ix3 b 0 (srcCol n k)) * wgt Q D M S o n k

theorem point_total (t : Fin cfg0.N) (i : Fin 256) (l : Fin 1024) :
    (outsAt0 m c t.val t.isLt).1 (ix2 i l) = total (aX m c) (aQ m c) (aD m c) (aM m c) (aS m c) i (col t l) := by
  rw [outs_apply]
  unfold pt total
  refine Finset.sum_congr rfl fun n _ => Finset.sum_congr rfl fun k _ => ?_
  refine congrArg₂ (fun x y : EReal => x * y) ?_ ?_
  · rw [interleaved_apply, blk0_apply]
    refine congrArg (fun j => aX m c (ix3 i 0 j)) (Fin.ext ?_)
    unfold srcCol
    dsimp only
    omega
  · unfold wAt wgt
    simp only [blk1_apply, blk2_apply, blk3_apply, blk4_apply]

theorem array (b : Fin 256) (o : Fin 16384) :
    Value.G5 m c (ix2 b o) = total (aX m c) (aQ m c) (aD m c) (aM m c) (aS m c) b o := by
  rw [← Value.final5]
  refine congrFun ((dats m 0 c).arrAt_eq_of_covers 5 (fun y => total (aX m c) (aQ m c) (aD m c) (aM m c) (aS m c) (y 0) (y 1)) (by decide +kernel) fun t hf y => ?_) (ix2 b o)
  blk_simp
  rw [after0_5]
  have hy : y = ix2 (y 0) (y 1) := by funext a; fin_cases a <;> rfl
  refine (congrArg (outsAt0 m c t.val t.isLt).1 hy).trans ((point_total m c t (y 0) (y 1)).trans ?_)
  refine congrArg₂ (total (aX m c) (aQ m c) (aD m c) (aM m c) (aS m c)) (Fin.ext ?_) (Fin.ext ?_)
  · blk_simp [idx5]
  · blk_simp [idx5]
    unfold col
    dsimp only
    omega

end Cert.KernelIdeal.Val
-- ==== Proof.Dot.lean ====
/- The reference's products at an index: a sum over the superblocks, the pairs of subblocks and the places in a subblock. -/
module

public import proofs.«01_k».proof.Proof.Gen.ReferenceIdeal.Launch
public import Idealize.ShloMosaic.Lib.Pointwise.Tactic

@[expose] public section
noncomputable section
namespace Cert.ReferenceIdeal.Val
open Idealize.ShloMosaic Cert.ReferenceIdeal Cert.ReferenceIdeal.Gen

/-- The reference's contraction: superblocks, pairs and places. -/
abbrev dims : DotDims S256x1x8x4x32 S16384x8x4x32 S256x1x16384 := dot_S256x1x8x4x32_S16384x8x4x32_S256x1x16384_432_321_01_0_n_n

/-- A contraction index is a place, a pair and a superblock. -/
def places : dims.contr.Idx ≃ Fin 8 × Fin 4 × Fin 32 where
  toFun q := (q ⟨2, by decide⟩, q ⟨1, by decide⟩, q ⟨0, by decide⟩)
  invFun p := fun a => match a with
    | ⟨0, _⟩ => p.2.2
    | ⟨1, _⟩ => p.2.1
    | ⟨2, _⟩ => p.1
  left_inv q := by
    funext a
    match a with
    | ⟨0, _⟩ => rfl
    | ⟨1, _⟩ => rfl
    | ⟨2, _⟩ => rfl
  right_inv _ := rfl

theorem lhs_at (b : Fin 256) (o : Fin 16384) (n : Fin 8) (p : Fin 4) (j : Fin 32) :
    dims.lhsIdx (ix3 b 0 o) (places.symm (n, p, j)) = ix5 b 0 n p j := by
  funext a
  match a with
  | ⟨0, _⟩ => rfl
  | ⟨1, _⟩ => rfl
  | ⟨2, _⟩ => rfl
  | ⟨3, _⟩ => rfl
  | ⟨4, _⟩ => rfl

theorem rhs_at (b : Fin 256) (o : Fin 16384) (n : Fin 8) (p : Fin 4) (j : Fin 32) :
    dims.rhsIdx (ix3 b 0 o) (places.symm (n, p, j)) = ix4 o n p j := by
  funext a
  match a with
  | ⟨0, _⟩ => rfl
  | ⟨1, _⟩ => rfl
  | ⟨2, _⟩ => rfl
  | ⟨3, _⟩ => rfl

theorem dot_apply (l : FVec Ideal S256x1x8x4x32 .bf16) (r : FVec Ideal S16384x8x4x32 .bf16) (b : Fin 256) (o : Fin 16384) :
    (Host.dotGeneral dims none l r : FVec Ideal S256x1x16384 .f32) (ix3 b 0 o) = ∑ n : Fin 8, ∑ p : Fin 4, ∑ j : Fin 32, l (ix5 b 0 n p j) * r (ix4 o n p j) := by
  simp only [Host.dotGeneral]
  refine (Ideal.dotGeneral_apply dims none HostSchedule.single l r (ix3 b 0 o)).trans ?_
  rw [← Equiv.sum_comp places.symm]
  simp only [Fintype.sum_prod_type, lhs_at, rhs_at]

end Cert.ReferenceIdeal.Val
-- ==== Proof.RefTail.lean ====
/- The reference's host operations after the widening, read at an index. -/
module

public import proofs.«01_k».proof.Proof.Dot
public import proofs.«01_k».proof.Proof.Point
public import Idealize.ShloMosaic.Lib.StableHlo.ReadAt

@[expose] public section
noncomputable section
namespace Cert.ReferenceIdeal.Val
open Idealize.ShloMosaic Idealize.ShloMosaic.TcCoe Cert.ReferenceIdeal Cert.ReferenceIdeal.Gen
open Cert.KernelIdeal.Val (kW nib half)

variable (W : Valuation τ sig (Elt Ideal))

theorem lo_act (b : Fin 256) (n : Fin 8) (p : Fin 4) (j : Fin 32) :
    (StableHlo.after hostOps1 W (Proc.devRef .tc main_v61) : Vec Ideal S256x1x8x4x32 .bf16) (ix5 b 0 n p j)
      = (W (Proc.devRef .tc main_arg0) : Vec Ideal S256x1x2048 .bf16) (ix3 b 0 ⟨n.val * 256 + p.val * 64 + j.val, by omega⟩) := by
  after_reads_at

theorem hi_act (b : Fin 256) (n : Fin 8) (p : Fin 4) (j : Fin 32) :
    (StableHlo.after hostOps1 W (Proc.devRef .tc main_v64) : Vec Ideal S256x1x8x4x32 .bf16) (ix5 b 0 n p j)
      = (W (Proc.devRef .tc main_arg0) : Vec Ideal S256x1x2048 .bf16) (ix3 b 0 ⟨n.val * 256 + p.val * 64 + 32 + j.val, by omega⟩) := by
  after_reads_at

/-- A dequantized weight from a code, the superblock's two factors, a scale and a minimum. -/
abbrev weight (q : BitVec 32) (d mn : EReal) (s o : BitVec 32) : EReal :=
  FloatOps.sitofp (F := Ideal) .bf16 q * (d * FloatOps.sitofp (F := Ideal) .f32 s) - mn * FloatOps.sitofp (F := Ideal) .f32 o

theorem lo_wgt (o : Fin 16384) (n : Fin 8) (p : Fin 4) (j : Fin 32) :
    (StableHlo.after hostOps1 W (Proc.devRef .tc main_v52) : Vec Ideal S16384x8x4x32 .bf16) (ix4 o n p j)
      = weight (IntOp.andi (((W (Proc.devRef .tc main_arg1) : Vec Ideal S16384x1024 .i8) (ix2 o ⟨n.val * 128 + p.val * 32 + j.val, by omega⟩)).setWidth 32) 15#32)
          ((W (Proc.devRef .tc main_v26_0) : Vec Ideal S16384x8 .f32) (ix2 o n)) ((W (Proc.devRef .tc main_v26_1) : Vec Ideal S16384x8 .f32) (ix2 o n))
          ((W (Proc.devRef .tc main_v13) : Vec Ideal S16384x8x8 .i32) (ix3 o n ⟨p.val * 2, by omega⟩))
          ((W (Proc.devRef .tc main_v23) : Vec Ideal S16384x8x8 .i32) (ix3 o n ⟨p.val * 2, by omega⟩)) := by
  after_reads_at

theorem hi_wgt (o : Fin 16384) (n : Fin 8) (p : Fin 4) (j : Fin 32) :
    (StableHlo.after hostOps1 W (Proc.devRef .tc main_v58) : Vec Ideal S16384x8x4x32 .bf16) (ix4 o n p j)
      = weight (IntOp.shrsi .host (((W (Proc.devRef .tc main_arg1) : Vec Ideal S16384x1024 .i8) (ix2 o ⟨n.val * 128 + p.val * 32 + j.val, by omega⟩)).setWidth 32) 4#32)
          ((W (Proc.devRef .tc main_v26_0) : Vec Ideal S16384x8 .f32) (ix2 o n)) ((W (Proc.devRef .tc main_v26_1) : Vec Ideal S16384x8 .f32) (ix2 o n))
          ((W (Proc.devRef .tc main_v13) : Vec Ideal S16384x8x8 .i32) (ix3 o n ⟨p.val * 2 + 1, by omega⟩))
          ((W (Proc.devRef .tc main_v23) : Vec Ideal S16384x8x8 .i32) (ix3 o n ⟨p.val * 2 + 1, by omega⟩)) := by
  after_reads_at

theorem outer (u v : FVec Ideal S256x1x16384 .f32) (b : Fin 256) (o : Fin 16384) :
    shapeCast S256x16384 (truncf .bf16 (addf u v) bitsLt_bf16_f32) shapeCasts_S256x1x16384_S256x16384 (ix2 b o) = u (ix3 b 0 o) + v (ix3 b 0 o) := by
  pointwise

/-- The reference's product of activations and weights. -/
abbrev prod (l : FVec Ideal S256x1x8x4x32 .bf16) (r : FVec Ideal S16384x8x4x32 .bf16) : FVec Ideal S256x1x16384 .f32 := Host.dotGeneral dims none l r

theorem result (b : Fin 256) (o : Fin 16384) :
    (StableHlo.after hostOps1 W (Proc.devRef .tc main_v68) : Vec Ideal S256x16384 .bf16) (ix2 b o)
      = prod (StableHlo.after hostOps1 W (Proc.devRef .tc main_v61)) (StableHlo.after hostOps1 W (Proc.devRef .tc main_v52)) (ix3 b 0 o)
        + prod (StableHlo.after hostOps1 W (Proc.devRef .tc main_v64)) (StableHlo.after hostOps1 W (Proc.devRef .tc main_v58)) (ix3 b 0 o) := by
  after_reads_simp
  all_goals try simp -implicitDefEqProofs only [StableHlo.TRef.toBuf, StableHlo.TRef.ofBuf, cast_cast, cast_eq]
  exact outer _ _ b o

/-! ## Before the widening -/

/-! A byte's bit fields, the kernel's way and the reference's. -/

theorem byte_upper : ∀ b : BitVec 8, IntOp.shli .host (IntOp.shrsi .host (b.setWidth 32) 6#32) 4#32 = IntOp.andi (IntOp.shrsi .vector (b.setWidth 32) 2#32) 48#32 := by
  decide

theorem byte_low : ∀ b : BitVec 8, IntOp.andi (b.setWidth 32) 15#32 = IntOp.andi (IntOp.shrsi .vector (b.setWidth 32) 0#32) 15#32 := by
  decide

theorem byte_high : ∀ b : BitVec 8, IntOp.shrsi .host (b.setWidth 32) 4#32 = IntOp.andi (IntOp.shrsi .vector (b.setWidth 32) 4#32) 15#32 := by
  decide

theorem byte_nib : ∀ b : BitVec 8, IntOp.shrsi .host (b.setWidth 32) 4#32 = nib 1 b := by
  decide

theorem scale_bits (b u : Fin 4 → BitVec 8) (i : Fin 8) :
    (if h : i.val < 4 then IntOp.andi ((b ⟨i.val, h⟩).setWidth 32) 63#32
      else IntOp.ori (IntOp.andi ((u ⟨i.val - 4, by omega⟩).setWidth 32) 15#32)
        (IntOp.shli .host (IntOp.shrsi .host ((b ⟨i.val - 4, by omega⟩).setWidth 32) 6#32) 4#32))
      = kW 0#32 (fun r => (b r).setWidth 32) (fun r => (u r).setWidth 32) i := by
  unfold kW
  simp only [byte_upper, ← byte_low]

theorem min_bits (b u : Fin 4 → BitVec 8) (i : Fin 8) :
    (if h : i.val < 4 then IntOp.andi ((b ⟨i.val, h⟩).setWidth 32) 63#32
      else IntOp.ori (IntOp.shrsi .host ((u ⟨i.val - 4, by omega⟩).setWidth 32) 4#32)
        (IntOp.shli .host (IntOp.shrsi .host ((b ⟨i.val - 4, by omega⟩).setWidth 32) 6#32) 4#32))
      = kW 4#32 (fun r => (b r).setWidth 32) (fun r => (u r).setWidth 32) i := by
  unfold kW
  simp only [byte_upper, byte_high]

/-- The scales' bytes. -/
abbrev bytes (S : Vec Ideal S16384x8x12 .i8) (o : Fin 16384) (n : Fin 8) (k : Fin 12) : BitVec 32 := (S (ix3 o n k)).setWidth 32

theorem scale_at (o : Fin 16384) (n i : Fin 8) :
    (StableHlo.after hostOps0 W (Proc.devRef .tc main_v13) : Vec Ideal S16384x8x8 .i32) (ix3 o n i)
      = kW 0#32 (fun r => bytes (W (Proc.devRef .tc main_arg4)) o n ⟨r.val, by omega⟩) (fun r => bytes (W (Proc.devRef .tc main_arg4)) o n ⟨8 + r.val, by omega⟩) i := by
  after_reads_at
  exact scale_bits (fun r => (W (Proc.devRef .tc main_arg4) : Vec Ideal S16384x8x12 .i8) (ix3 o n ⟨r.val, by omega⟩)) (fun r => (W (Proc.devRef .tc main_arg4) : Vec Ideal S16384x8x12 .i8) (ix3 o n ⟨8 + r.val, by omega⟩)) i

theorem min_at (o : Fin 16384) (n i : Fin 8) :
    (StableHlo.after hostOps0 W (Proc.devRef .tc main_v23) : Vec Ideal S16384x8x8 .i32) (ix3 o n i)
      = kW 4#32 (fun r => bytes (W (Proc.devRef .tc main_arg4)) o n ⟨4 + r.val, by omega⟩) (fun r => bytes (W (Proc.devRef .tc main_arg4)) o n ⟨8 + r.val, by omega⟩) i := by
  after_reads_at
  exact min_bits (fun r => (W (Proc.devRef .tc main_arg4) : Vec Ideal S16384x8x12 .i8) (ix3 o n ⟨4 + r.val, by omega⟩)) (fun r => (W (Proc.devRef .tc main_arg4) : Vec Ideal S16384x8x12 .i8) (ix3 o n ⟨8 + r.val, by omega⟩)) i

theorem fac_at (o : Fin 16384) (n : Fin 8) :
    (StableHlo.after hostOps0 W (Proc.devRef .tc main_v24) : Vec Ideal S16384x8 .f16) (ix2 o n)
      = half ((W (Proc.devRef .tc main_arg2) : Vec Ideal S16384x8 .i16) (ix2 o n)) := by
  unfold half
  after_reads_at

theorem facMin_at (o : Fin 16384) (n : Fin 8) :
    (StableHlo.after hostOps0 W (Proc.devRef .tc main_v25) : Vec Ideal S16384x8 .f16) (ix2 o n)
      = half ((W (Proc.devRef .tc main_arg3) : Vec Ideal S16384x8 .i16) (ix2 o n)) := by
  unfold half
  after_reads_at

end Cert.ReferenceIdeal.Val
-- ==== Proof.RefValue.lean ====
/- The reference's result array at an index, in the arguments. -/
module

public import proofs.«01_k».proof.Proof.RefTail
public import proofs.«01_k».proof.Proof.Gen.ReferenceIdeal.Frame
public import Idealize.ShloMosaic.Lib.Pipeline.ValueKit.Geometry
public import Idealize.ShloMosaic.Lib.Pipeline.ValueKit.Acc

@[expose] public section
noncomputable section
namespace Cert.ReferenceIdeal.Val
open Idealize.ShloMosaic Idealize.ShloMosaic.TcCoe Idealize.SL.Sem Cert.ReferenceIdeal Cert.ReferenceIdeal.Gen
open Cert.KernelIdeal.Val (kW nib half)

variable (m : (ℓ : Loc nD τ sig) → Buf (Elt Ideal) ℓ) (c : Dev nD)

theorem pay1_eq (x : Vec Ideal S16384x8 .f16) (i : S16384x8.Idx) : k0_pay1 x i = x i := by
  unfold k0_pay1
  pointwise

theorem pay2_eq (x : Vec Ideal S16384x8 .f16) (i : S16384x8.Idx) : k0_pay2 x i = x i := by
  unfold k0_pay2
  pointwise

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The one point. -/
def t0 : Fin cfg0.N := ⟨0, by decide⟩

theorem iblk0 : iblk m c 0 t0 = V m c main_v24 := by
  blk_ext! [iblk, idx t0]

theorem iblk1 : iblk m c 1 t0 = V m c main_v25 := by
  blk_ext! [iblk, idx t0]

theorem final2 : (dats m 0 c).arrAt 2 cfg0.N = (V m c main_v24 : Vec Ideal S16384x8 .f16) := by
  refine (dats m 0 c).arrAt_eq_of_after_last 2 t0 (by decide +kernel) _ fun j => ?_
  blk_simp
  rw [after0_2]
  frame_out
  rw [iblk0]
  exact pay1_eq _ j

theorem final3 : (dats m 0 c).arrAt 3 cfg0.N = (V m c main_v25 : Vec Ideal S16384x8 .f16) := by
  refine (dats m 0 c).arrAt_eq_of_after_last 3 t0 (by decide +kernel) _ fun j => ?_
  blk_simp
  rw [after0_3]
  frame_out
  rw [iblk1]
  exact pay2_eq _ j

/-- The buffers when the host operations after the widening start. -/
def mid : Valuation τ sig (Elt Ideal) := Pipeline.withArrays spec0 c (V0 m c) fun w => (dats m 0 c).arrAt w cfg0.N

theorem V0_eq : V0 m c = StableHlo.after hostOps0 (fun b => m (c, b)) := by
  unfold V0
  rw [List.flatten_singleton]

theorem spec0_inj : Function.Injective (Pipeline.arrRef spec0) := by
  exact (by decide : Function.Injective (Pipeline.arrRef spec0))

theorem mid_of (b : Ref sig .tc) (hb : ∀ w, Pipeline.arrRef spec0 w ≠ b) : mid m c (Proc.devRef .tc b) = V0 m c (Proc.devRef .tc b) :=
  Pipeline.withArrays_of_ne spec0 c (V0 m c) _ b hb

theorem mid_arg0 : mid m c (Proc.devRef .tc main_arg0) = m ((c : Thread nD τ).loc main_arg0) :=
  (mid_of m c main_arg0 (by exact (by decide : ∀ w, Pipeline.arrRef spec0 w ≠ main_arg0))).trans (V_main_arg0 m c)

theorem mid_arg1 : mid m c (Proc.devRef .tc main_arg1) = m ((c : Thread nD τ).loc main_arg1) :=
  (mid_of m c main_arg1 (by exact (by decide : ∀ w, Pipeline.arrRef spec0 w ≠ main_arg1))).trans (V_main_arg1 m c)

/-- The five arguments, as arrays. -/
abbrev aX : Vec Ideal S256x1x2048 .bf16 := m ((c : Thread nD τ).loc main_arg0)
abbrev aQ : Vec Ideal S16384x1024 .i8 := m ((c : Thread nD τ).loc main_arg1)
abbrev aD : Vec Ideal S16384x8 .i16 := m ((c : Thread nD τ).loc main_arg2)
abbrev aM : Vec Ideal S16384x8 .i16 := m ((c : Thread nD τ).loc main_arg3)
abbrev aS : Vec Ideal S16384x8x12 .i8 := m ((c : Thread nD τ).loc main_arg4)

/-- A scale and a minimum of a superblock. -/
abbrev scaleOf (S : Vec Ideal S16384x8x12 .i8) (o : Fin 16384) (n i : Fin 8) : BitVec 32 :=
  kW 0#32 (fun r => bytes S o n ⟨r.val, by omega⟩) (fun r => bytes S o n ⟨8 + r.val, by omega⟩) i
abbrev minOf (S : Vec Ideal S16384x8x12 .i8) (o : Fin 16384) (n i : Fin 8) : BitVec 32 :=
  kW 4#32 (fun r => bytes S o n ⟨4 + r.val, by omega⟩) (fun r => bytes S o n ⟨8 + r.val, by omega⟩) i

theorem mid_scale (o : Fin 16384) (n i : Fin 8) : (mid m c (Proc.devRef .tc main_v13) : Vec Ideal S16384x8x8 .i32) (ix3 o n i) = scaleOf (aS m c) o n i :=
  (congrFun ((mid_of m c main_v13 (by exact (by decide : ∀ w, Pipeline.arrRef spec0 w ≠ main_v13))).trans (congrFun (V0_eq m c) _)) _).trans
    (scale_at (fun b => m (c, b)) o n i)

theorem mid_min (o : Fin 16384) (n i : Fin 8) : (mid m c (Proc.devRef .tc main_v23) : Vec Ideal S16384x8x8 .i32) (ix3 o n i) = minOf (aS m c) o n i :=
  (congrFun ((mid_of m c main_v23 (by exact (by decide : ∀ w, Pipeline.arrRef spec0 w ≠ main_v23))).trans (congrFun (V0_eq m c) _)) _).trans
    (min_at (fun b => m (c, b)) o n i)

theorem mid_fac (o : Fin 16384) (n : Fin 8) : (mid m c (Proc.devRef .tc main_v26_0) : Vec Ideal S16384x8 .f32) (ix2 o n) = half (aD m c (ix2 o n)) :=
  (congrFun ((Pipeline.withArrays_arr spec0 spec0_inj c (V0 m c) (fun w => (dats m 0 c).arrAt w cfg0.N) 2).trans ((final2 m c).trans (congrFun (V0_eq m c) _))) _).trans
    (fac_at (fun b => m (c, b)) o n)

theorem mid_facMin (o : Fin 16384) (n : Fin 8) : (mid m c (Proc.devRef .tc main_v26_1) : Vec Ideal S16384x8 .f32) (ix2 o n) = half (aM m c (ix2 o n)) :=
  (congrFun ((Pipeline.withArrays_arr spec0 spec0_inj c (V0 m c) (fun w => (dats m 0 c).arrAt w cfg0.N) 3).trans ((final3 m c).trans (congrFun (V0_eq m c) _))) _).trans
    (facMin_at (fun b => m (c, b)) o n)

/-- The reference's two sums. -/
def total (X : Vec Ideal S256x1x2048 .bf16) (Q : Vec Ideal S16384x1024 .i8) (D M : Vec Ideal S16384x8 .i16) (S : Vec Ideal S16384x8x12 .i8)
    (b : Fin 256) (o : Fin 16384) : EReal :=
  (∑ n : Fin 8, ∑ p : Fin 4, ∑ j : Fin 32, X (ix3 b 0 ⟨n.val * 256 + p.val * 64 + j.val, by omega⟩)
      * weight (nib 0 (Q (ix2 o ⟨n.val * 128 + p.val * 32 + j.val, by omega⟩))) (half (D (ix2 o n))) (half (M (ix2 o n)))
          (scaleOf S o n ⟨p.val * 2, by omega⟩) (minOf S o n ⟨p.val * 2, by omega⟩))
  + ∑ n : Fin 8, ∑ p : Fin 4, ∑ j : Fin 32, X (ix3 b 0 ⟨n.val * 256 + p.val * 64 + 32 + j.val, by omega⟩)
      * weight (nib 1 (Q (ix2 o ⟨n.val * 128 + p.val * 32 + j.val, by omega⟩))) (half (D (ix2 o n))) (half (M (ix2 o n)))
          (scaleOf S o n ⟨p.val * 2 + 1, by omega⟩) (minOf S o n ⟨p.val * 2 + 1, by omega⟩)

theorem array (b : Fin 256) (o : Fin 16384) :
    (StableHlo.after hostOps1 (mid m c) (Proc.devRef .tc main_v68) : Vec Ideal S256x16384 .bf16) (ix2 b o) = total (aX m c) (aQ m c) (aD m c) (aM m c) (aS m c) b o := by
  refine (result (mid m c) b o).trans ?_
  unfold total
  refine congrArg₂ (fun x y : EReal => x + y) ?_ ?_
  · refine (dot_apply _ _ b o).trans (Finset.sum_congr rfl fun n _ => Finset.sum_congr rfl fun p _ => Finset.sum_congr rfl fun j _ => ?_)
    refine congrArg₂ (fun x y : EReal => x * y) ((lo_act (mid m c) b n p j).trans (congrFun (mid_arg0 m c) _)) ((lo_wgt (mid m c) o n p j).trans ?_)
    rw [mid_fac, mid_facMin, mid_scale, mid_min, mid_arg1]
    rfl
  · refine (dot_apply _ _ b o).trans (Finset.sum_congr rfl fun n _ => Finset.sum_congr rfl fun p _ => Finset.sum_congr rfl fun j _ => ?_)
    refine congrArg₂ (fun x y : EReal => x * y) ((hi_act (mid m c) b n p j).trans (congrFun (mid_arg0 m c) _)) ((hi_wgt (mid m c) o n p j).trans ?_)
    rw [mid_fac, mid_facMin, mid_scale, mid_min, mid_arg1, byte_nib]

/-- The reference's run: its result array, and its arguments as they were. -/
theorem run (ρ : Dev nD → PrngReg) : θ_run defs (onTc (τ := τ) (main (F := Ideal))) ⟨m, fun _ => 0, ρ⟩ (fun r => ∀ c : Dev nD,
      r.2.mem ((c : Thread nD τ).loc main_v68) = StableHlo.after hostOps1 (mid m c) (Proc.devRef .tc main_v68)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨((h c).2 main_v68 (Pipeline.mem_restRefs_of main_v68 (by decide) (by decide))).trans
        (by unfold Pipeline.afterTail₀; rw [List.flatten_singleton]; rfl),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩) (run_main m ρ)

end Cert.ReferenceIdeal.Val
-- ==== Proof.Agree.lean ====
/- The kernel's sum and the reference's two sums are one: the same products in another order. -/
module

public import proofs.«01_k».proof.Proof.Kernel
public import proofs.«01_k».proof.Proof.RefValue
public import Idealize.ShloMosaic.Lib.Pointwise.Sums

@[expose] public section
noncomputable section
namespace Cert.Agree
open Idealize.ShloMosaic Cert.KernelIdeal
open Cert.KernelIdeal.Val (kW nib half srcCol wgt)

/-- A superblock's 256 rows: the even rows' sum and the odd rows', pair by pair. -/
theorem sum_rows (f : Fin 256 → EReal) :
    ∑ k, f k = ∑ p : Fin 4, ∑ j : Fin 32, f ⟨64 * p.val + 2 * j.val, by omega⟩ + ∑ p : Fin 4, ∑ j : Fin 32, f ⟨64 * p.val + 2 * j.val + 1, by omega⟩ := by
  rw [Fin.sum_univ_tiles 4 64 rfl f, ← Finset.sum_add_distrib]
  refine Finset.sum_congr rfl fun p _ => ?_
  rw [Fin.sum_univ_tiles 32 2 rfl, ← Finset.sum_add_distrib]
  refine Finset.sum_congr rfl fun j _ => ?_
  rw [Fin.sum_univ_two]
  refine congrArg₂ (fun x y : EReal => x + y) (congrArg f (Fin.ext ?_)) (congrArg f (Fin.ext ?_))
  · simp; omega
  · simp; omega

theorem total_eq (X : Vec Ideal S256x1x2048 .bf16) (Q : Vec Ideal S16384x1024 .i8) (D M : Vec Ideal S16384x8 .i16) (S : Vec Ideal S16384x8x12 .i8)
    (b : Fin 256) (o : Fin 16384) : Cert.KernelIdeal.Val.total X Q D M S b o = Cert.ReferenceIdeal.Val.total X Q D M S b o := by
  unfold Cert.KernelIdeal.Val.total Cert.ReferenceIdeal.Val.total
  rw [← Finset.sum_add_distrib]
  refine Finset.sum_congr rfl fun n _ => ?_
  rw [sum_rows]
  refine congrArg₂ (fun x y : EReal => x + y) (Finset.sum_congr rfl fun p _ => Finset.sum_congr rfl fun j _ => ?_)
    (Finset.sum_congr rfl fun p _ => Finset.sum_congr rfl fun j _ => ?_)
  · have e0 : (64 * p.val + 2 * j.val) % 2 = 0 := by omega
    have eX : srcCol n ⟨64 * p.val + 2 * j.val, by omega⟩ = ⟨n.val * 256 + p.val * 64 + j.val, by omega⟩ := Fin.ext (by unfold srcCol; dsimp only; omega)
    have eQ : (⟨128 * n.val + (64 * p.val + 2 * j.val) / 2, by omega⟩ : Fin 1024) = ⟨n.val * 128 + p.val * 32 + j.val, by omega⟩ := Fin.ext (by dsimp only; omega)
    have eI : (⟨2 * ((64 * p.val + 2 * j.val) / 64) + (64 * p.val + 2 * j.val) % 2, by omega⟩ : Fin 8) = ⟨p.val * 2, by omega⟩ := Fin.ext (by dsimp only; omega)
    unfold wgt
    dsimp only
    rw [eX, eQ, eI, e0]
  · have e0 : (64 * p.val + 2 * j.val + 1) % 2 = 1 := by omega
    have eX : srcCol n ⟨64 * p.val + 2 * j.val + 1, by omega⟩ = ⟨n.val * 256 + p.val * 64 + 32 + j.val, by omega⟩ := Fin.ext (by unfold srcCol; dsimp only; omega)
    have eQ : (⟨128 * n.val + (64 * p.val + 2 * j.val + 1) / 2, by omega⟩ : Fin 1024) = ⟨n.val * 128 + p.val * 32 + j.val, by omega⟩ := Fin.ext (by dsimp only; omega)
    have eI : (⟨2 * ((64 * p.val + 2 * j.val + 1) / 64) + (64 * p.val + 2 * j.val + 1) % 2, by omega⟩ : Fin 8) = ⟨p.val * 2 + 1, by omega⟩ := Fin.ext (by dsimp only; omega)
    unfold wgt
    dsimp only
    rw [eX, eQ, eI, e0]

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import Idealize.ShloMosaic.Lib.Bf16Pair
public import Idealize.ShloMosaic.Lib.Bf16PairInverse
public import proofs.«01_k».proof.Proof.Agree
public import Idealize.ShloMosaic.Adequacy
public import Idealize.ShloMosaic.Init

@[expose] public section

noncomputable section

namespace Cert.Proof

open Idealize.ShloMosaic Idealize.SL.Sem Cert.Kernel

open Idealize.ShloMosaic.IdealRules in
/-- The rewrites of the idealization, each an instance of its rule. -/
theorem preserves : Cert.preserves_Kernel_KernelIdeal :=
  ⟨bf16_pair.bufferStatement _ _, bf16_pair.packStatement _, bf16_pair.statement _ _, bf16_pair.statement _ _, bf16_pair.statement _ _⟩

/-- At `Ideal` the kernel's result array and the reference's are equal: each element is one sum of the same products. -/
theorem algebraic : Cert.algebraic_KernelIdeal_ReferenceIdeal := by
  intro m g m' g' _ hargs
  refine ⟨fun c => Cert.KernelIdeal.Value.G5 m c, Cert.KernelIdeal.Value.run m g, ?_⟩
  refine (θ_run _ _ _).mono (fun r h c => ⟨(h c).1.trans ?_, (h c).2⟩) (Cert.ReferenceIdeal.Val.run m' g')
  obtain ⟨h0, h1, h2, h3, h4⟩ := hargs c
  funext i
  obtain ⟨b, o, rfl⟩ : ∃ (b : Fin 256) (o : Fin 16384), i = ix2 b o := ⟨i 0, i 1, eq_ix2 i⟩
  refine (Cert.ReferenceIdeal.Val.array m' c b o).trans (Eq.trans ?_ (Cert.KernelIdeal.Val.array m c b o).symm)
  rw [Cert.Agree.total_eq]
  unfold Cert.ReferenceIdeal.Val.aX Cert.ReferenceIdeal.Val.aQ Cert.ReferenceIdeal.Val.aD Cert.ReferenceIdeal.Val.aM Cert.ReferenceIdeal.Val.aS
  rw [h0, h1, h2, h3, h4]

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, fun m g _ => Cert.ReferenceIdeal.Gen.frame m g, preserves, algebraic⟩

end Cert.Proof

end
